-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S96x512x512 : Shape := ⟨3, ![96, 512, 512]⟩
abbrev S_ : Shape := ⟨0, ![]⟩
abbrev S512 : Shape := ⟨1, ![512]⟩
abbrev S1024 : Shape := ⟨1, ![1024]⟩
abbrev S1 : Shape := ⟨1, ![1]⟩
abbrev S2 : Shape := ⟨1, ![2]⟩
abbrev S2x1 : Shape := ⟨2, ![2, 1]⟩
abbrev S2x2 : Shape := ⟨2, ![2, 2]⟩
abbrev S1x2 : Shape := ⟨2, ![1, 2]⟩
abbrev S1024x1 : Shape := ⟨2, ![1024, 1]⟩
abbrev S32x32 : Shape := ⟨2, ![32, 32]⟩
abbrev S16x16 : Shape := ⟨2, ![16, 16]⟩
abbrev S32x1x32x1 : Shape := ⟨4, ![32, 1, 32, 1]⟩
abbrev S1x16x1x16 : Shape := ⟨4, ![1, 16, 1, 16]⟩
abbrev S32x16x32x16 : Shape := ⟨4, ![32, 16, 32, 16]⟩
abbrev S512x512 : Shape := ⟨2, ![512, 512]⟩
abbrev S8x512x512 : Shape := ⟨3, ![8, 512, 512]⟩
abbrev S1x512x512 : Shape := ⟨3, ![1, 512, 512]⟩

abbrev nBuf : Space → Nat
  | .hbm => 516
  | .vmem => 5
  | .smem => 0
  | _ => 0

abbrev hbmTy0_0 (i : Nat) : BufTy := match i % 128 with
  | 0 => ⟨S96x512x512, .f32⟩
  | 1 => ⟨S_, .f32⟩
  | 2 => ⟨S512, .f32⟩
  | 3 => ⟨S_, .f32⟩
  | 4 => ⟨S512, .f32⟩
  | 5 => ⟨S1024, .f32⟩
  | 6 => ⟨S_, .i32⟩
  | 7 => ⟨S_, .i32⟩
  | 8 => ⟨S_, .i32⟩
  | 9 => ⟨S_, .i32⟩
  | 10 => ⟨S1, .i32⟩
  | 11 => ⟨S_, .i32⟩
  | 12 => ⟨S_, .i32⟩
  | 13 => ⟨S_, .i32⟩
  | 14 => ⟨S1, .i32⟩
  | 15 => ⟨S2, .i32⟩
  | 16 => ⟨S1024, .i32⟩
  | 17 => ⟨S1, .i32⟩
  | 18 => ⟨S_, .i32⟩
  | 19 => ⟨S1, .i32⟩
  | 20 => ⟨S_, .i32⟩
  | 21 => ⟨S2, .i64⟩
  | 22 => ⟨S_, .i64⟩
  | 23 => ⟨S2, .i64⟩
  | 24 => ⟨S2, .i64⟩
  | 25 => ⟨S_, .i64⟩
  | 26 => ⟨S2, .i64⟩
  | 27 => ⟨S2, .i64⟩
  | 28 => ⟨S2, .i32⟩
  | 29 => ⟨S2, .i32⟩
  | 30 => ⟨S_, .i32⟩
  | 31 => ⟨S_, .i32⟩
  | 32 => ⟨S_, .i32⟩
  | 33 => ⟨S2, .i32⟩
  | 34 => ⟨S2, .i32⟩
  | 35 => ⟨S2, .i32⟩
  | 36 => ⟨S2, .i32⟩
  | 37 => ⟨S2, .i32⟩
  | 38 => ⟨S_, .i32⟩
  | 39 => ⟨S2, .i32⟩
  | 40 => ⟨S2, .i32⟩
  | 41 => ⟨S_, .i32⟩
  | 42 => ⟨S2, .i32⟩
  | 43 => ⟨S2, .i32⟩
  | 44 => ⟨S2, .i32⟩
  | 45 => ⟨S2, .i32⟩
  | 46 => ⟨S2, .i32⟩
  | 47 => ⟨S_, .i32⟩
  | 48 => ⟨S2, .i32⟩
  | 49 => ⟨S2, .i32⟩
  | 50 => ⟨S_, .i32⟩
  | 51 => ⟨S2, .i32⟩
  | 52 => ⟨S2, .i32⟩
  | 53 => ⟨S2, .i32⟩
  | 54 => ⟨S2, .i32⟩
  | 55 => ⟨S2, .i32⟩
  | 56 => ⟨S_, .i32⟩
  | 57 => ⟨S2, .i32⟩
  | 58 => ⟨S2, .i32⟩
  | 59 => ⟨S_, .i32⟩
  | 60 => ⟨S2, .i32⟩
  | 61 => ⟨S2, .i32⟩
  | 62 => ⟨S2, .i32⟩
  | 63 => ⟨S2, .i32⟩
  | 64 => ⟨S2, .i32⟩
  | 65 => ⟨S_, .i32⟩
  | 66 => ⟨S2, .i32⟩
  | 67 => ⟨S2, .i32⟩
  | 68 => ⟨S_, .i32⟩
  | 69 => ⟨S2, .i32⟩
  | 70 => ⟨S2, .i32⟩
  | 71 => ⟨S2, .i32⟩
  | 72 => ⟨S2, .i32⟩
  | 73 => ⟨S2, .i32⟩
  | 74 => ⟨S2, .i32⟩
  | 75 => ⟨S2, .i32⟩
  | 76 => ⟨S2, .i32⟩
  | 77 => ⟨S_, .i32⟩
  | 78 => ⟨S2, .i32⟩
  | 79 => ⟨S2, .i32⟩
  | 80 => ⟨S2, .i32⟩
  | 81 => ⟨S_, .i32⟩
  | 82 => ⟨S2, .i32⟩
  | 83 => ⟨S2, .i32⟩
  | 84 => ⟨S_, .i32⟩
  | 85 => ⟨S2, .i32⟩
  | 86 => ⟨S2, .i32⟩
  | 87 => ⟨S2, .i32⟩
  | 88 => ⟨S2, .i32⟩
  | 89 => ⟨S2, .i32⟩
  | 90 => ⟨S_, .i32⟩
  | 91 => ⟨S2, .i32⟩
  | 92 => ⟨S2, .i32⟩
  | 93 => ⟨S_, .i32⟩
  | 94 => ⟨S2, .i32⟩
  | 95 => ⟨S2, .i32⟩
  | 96 => ⟨S2, .i32⟩
  | 97 => ⟨S2, .i32⟩
  | 98 => ⟨S2, .i32⟩
  | 99 => ⟨S_, .i32⟩
  | 100 => ⟨S2, .i32⟩
  | 101 => ⟨S2, .i32⟩
  | 102 => ⟨S_, .i32⟩
  | 103 => ⟨S2, .i32⟩
  | 104 => ⟨S2, .i32⟩
  | 105 => ⟨S2, .i32⟩
  | 106 => ⟨S2, .i32⟩
  | 107 => ⟨S2, .i32⟩
  | 108 => ⟨S_, .i32⟩
  | 109 => ⟨S2, .i32⟩
  | 110 => ⟨S2, .i32⟩
  | 111 => ⟨S_, .i32⟩
  | 112 => ⟨S2, .i32⟩
  | 113 => ⟨S2, .i32⟩
  | 114 => ⟨S2, .i32⟩
  | 115 => ⟨S2, .i32⟩
  | 116 => ⟨S2, .i32⟩
  | 117 => ⟨S2, .i32⟩
  | 118 => ⟨S2, .i32⟩
  | 119 => ⟨S2, .i32⟩
  | 120 => ⟨S_, .i32⟩
  | 121 => ⟨S2, .i32⟩
  | 122 => ⟨S2, .i32⟩
  | 123 => ⟨S2, .i32⟩
  | 124 => ⟨S_, .i32⟩
  | 125 => ⟨S2, .i32⟩
  | 126 => ⟨S2, .i32⟩
  | 127 => ⟨S_, .i32⟩
  | _ => ⟨S96x512x512, .f32⟩

abbrev hbmTy0_1 (i : Nat) : BufTy := match i % 128 with
  | 0 => ⟨S2, .i32⟩
  | 1 => ⟨S2, .i32⟩
  | 2 => ⟨S2, .i32⟩
  | 3 => ⟨S2, .i32⟩
  | 4 => ⟨S2, .i32⟩
  | 5 => ⟨S_, .i32⟩
  | 6 => ⟨S2, .i32⟩
  | 7 => ⟨S2, .i32⟩
  | 8 => ⟨S_, .i32⟩
  | 9 => ⟨S2, .i32⟩
  | 10 => ⟨S2, .i32⟩
  | 11 => ⟨S2, .i32⟩
  | 12 => ⟨S2, .i32⟩
  | 13 => ⟨S2, .i32⟩
  | 14 => ⟨S_, .i32⟩
  | 15 => ⟨S2, .i32⟩
  | 16 => ⟨S2, .i32⟩
  | 17 => ⟨S_, .i32⟩
  | 18 => ⟨S2, .i32⟩
  | 19 => ⟨S2, .i32⟩
  | 20 => ⟨S2, .i32⟩
  | 21 => ⟨S2, .i32⟩
  | 22 => ⟨S2, .i32⟩
  | 23 => ⟨S_, .i32⟩
  | 24 => ⟨S2, .i32⟩
  | 25 => ⟨S2, .i32⟩
  | 26 => ⟨S_, .i32⟩
  | 27 => ⟨S2, .i32⟩
  | 28 => ⟨S2, .i32⟩
  | 29 => ⟨S2, .i32⟩
  | 30 => ⟨S2, .i32⟩
  | 31 => ⟨S2, .i32⟩
  | 32 => ⟨S2, .i32⟩
  | 33 => ⟨S2, .i32⟩
  | 34 => ⟨S2, .i32⟩
  | 35 => ⟨S_, .i32⟩
  | 36 => ⟨S2, .i32⟩
  | 37 => ⟨S2, .i32⟩
  | 38 => ⟨S2, .i32⟩
  | 39 => ⟨S_, .i32⟩
  | 40 => ⟨S2, .i32⟩
  | 41 => ⟨S2, .i32⟩
  | 42 => ⟨S_, .i32⟩
  | 43 => ⟨S2, .i32⟩
  | 44 => ⟨S2, .i32⟩
  | 45 => ⟨S2, .i32⟩
  | 46 => ⟨S2, .i32⟩
  | 47 => ⟨S2, .i32⟩
  | 48 => ⟨S_, .i32⟩
  | 49 => ⟨S2, .i32⟩
  | 50 => ⟨S2, .i32⟩
  | 51 => ⟨S_, .i32⟩
  | 52 => ⟨S2, .i32⟩
  | 53 => ⟨S2, .i32⟩
  | 54 => ⟨S2, .i32⟩
  | 55 => ⟨S2, .i32⟩
  | 56 => ⟨S2, .i32⟩
  | 57 => ⟨S_, .i32⟩
  | 58 => ⟨S2, .i32⟩
  | 59 => ⟨S2, .i32⟩
  | 60 => ⟨S_, .i32⟩
  | 61 => ⟨S2, .i32⟩
  | 62 => ⟨S2, .i32⟩
  | 63 => ⟨S2, .i32⟩
  | 64 => ⟨S2, .i32⟩
  | 65 => ⟨S2, .i32⟩
  | 66 => ⟨S_, .i32⟩
  | 67 => ⟨S2, .i32⟩
  | 68 => ⟨S2, .i32⟩
  | 69 => ⟨S_, .i32⟩
  | 70 => ⟨S2, .i32⟩
  | 71 => ⟨S2, .i32⟩
  | 72 => ⟨S2, .i32⟩
  | 73 => ⟨S2, .i32⟩
  | 74 => ⟨S2, .i32⟩
  | 75 => ⟨S2, .i32⟩
  | 76 => ⟨S2, .i32⟩
  | 77 => ⟨S2, .i32⟩
  | 78 => ⟨S_, .i32⟩
  | 79 => ⟨S2, .i32⟩
  | 80 => ⟨S2, .i32⟩
  | 81 => ⟨S2, .i32⟩
  | 82 => ⟨S_, .i32⟩
  | 83 => ⟨S2, .i32⟩
  | 84 => ⟨S2, .i32⟩
  | 85 => ⟨S_, .i32⟩
  | 86 => ⟨S2, .i32⟩
  | 87 => ⟨S2, .i32⟩
  | 88 => ⟨S2, .i32⟩
  | 89 => ⟨S2, .i32⟩
  | 90 => ⟨S2, .i32⟩
  | 91 => ⟨S_, .i32⟩
  | 92 => ⟨S2, .i32⟩
  | 93 => ⟨S2, .i32⟩
  | 94 => ⟨S_, .i32⟩
  | 95 => ⟨S2, .i32⟩
  | 96 => ⟨S2, .i32⟩
  | 97 => ⟨S2, .i32⟩
  | 98 => ⟨S2, .i32⟩
  | 99 => ⟨S2, .i32⟩
  | 100 => ⟨S_, .i32⟩
  | 101 => ⟨S2, .i32⟩
  | 102 => ⟨S2, .i32⟩
  | 103 => ⟨S_, .i32⟩
  | 104 => ⟨S2, .i32⟩
  | 105 => ⟨S2, .i32⟩
  | 106 => ⟨S2, .i32⟩
  | 107 => ⟨S2, .i32⟩
  | 108 => ⟨S2, .i32⟩
  | 109 => ⟨S_, .i32⟩
  | 110 => ⟨S2, .i32⟩
  | 111 => ⟨S2, .i32⟩
  | 112 => ⟨S_, .i32⟩
  | 113 => ⟨S2, .i32⟩
  | 114 => ⟨S2, .i32⟩
  | 115 => ⟨S2, .i32⟩
  | 116 => ⟨S2, .i32⟩
  | 117 => ⟨S2, .i32⟩
  | 118 => ⟨S2, .i32⟩
  | 119 => ⟨S2, .i32⟩
  | 120 => ⟨S2, .i32⟩
  | 121 => ⟨S_, .i32⟩
  | 122 => ⟨S2, .i32⟩
  | 123 => ⟨S2, .i32⟩
  | 124 => ⟨S2x1, .i32⟩
  | 125 => ⟨S2x1, .i32⟩
  | 126 => ⟨S2x2, .i32⟩
  | 127 => ⟨S1x2, .i32⟩
  | _ => ⟨S96x512x512, .f32⟩

abbrev hbmTy0_2 (i : Nat) : BufTy := match i % 128 with
  | 0 => ⟨S2, .i32⟩
  | 1 => ⟨S1x2, .i32⟩
  | 2 => ⟨S2, .i32⟩
  | 3 => ⟨S1, .i32⟩
  | 4 => ⟨S_, .i32⟩
  | 5 => ⟨S1, .i32⟩
  | 6 => ⟨S_, .i32⟩
  | 7 => ⟨S1024, .i64⟩
  | 8 => ⟨S_, .i64⟩
  | 9 => ⟨S1024, .i64⟩
  | 10 => ⟨S1024, .i64⟩
  | 11 => ⟨S_, .i64⟩
  | 12 => ⟨S1024, .i64⟩
  | 13 => ⟨S1024, .i64⟩
  | 14 => ⟨S1024, .i32⟩
  | 15 => ⟨S1024, .i32⟩
  | 16 => ⟨S_, .i32⟩
  | 17 => ⟨S_, .i32⟩
  | 18 => ⟨S_, .i32⟩
  | 19 => ⟨S1024, .i32⟩
  | 20 => ⟨S1024, .i32⟩
  | 21 => ⟨S1024, .i32⟩
  | 22 => ⟨S1024, .i32⟩
  | 23 => ⟨S1024, .i32⟩
  | 24 => ⟨S_, .i32⟩
  | 25 => ⟨S1024, .i32⟩
  | 26 => ⟨S1024, .i32⟩
  | 27 => ⟨S_, .i32⟩
  | 28 => ⟨S1024, .i32⟩
  | 29 => ⟨S1024, .i32⟩
  | 30 => ⟨S1024, .i32⟩
  | 31 => ⟨S1024, .i32⟩
  | 32 => ⟨S1024, .i32⟩
  | 33 => ⟨S_, .i32⟩
  | 34 => ⟨S1024, .i32⟩
  | 35 => ⟨S1024, .i32⟩
  | 36 => ⟨S_, .i32⟩
  | 37 => ⟨S1024, .i32⟩
  | 38 => ⟨S1024, .i32⟩
  | 39 => ⟨S1024, .i32⟩
  | 40 => ⟨S1024, .i32⟩
  | 41 => ⟨S1024, .i32⟩
  | 42 => ⟨S_, .i32⟩
  | 43 => ⟨S1024, .i32⟩
  | 44 => ⟨S1024, .i32⟩
  | 45 => ⟨S_, .i32⟩
  | 46 => ⟨S1024, .i32⟩
  | 47 => ⟨S1024, .i32⟩
  | 48 => ⟨S1024, .i32⟩
  | 49 => ⟨S1024, .i32⟩
  | 50 => ⟨S1024, .i32⟩
  | 51 => ⟨S_, .i32⟩
  | 52 => ⟨S1024, .i32⟩
  | 53 => ⟨S1024, .i32⟩
  | 54 => ⟨S_, .i32⟩
  | 55 => ⟨S1024, .i32⟩
  | 56 => ⟨S1024, .i32⟩
  | 57 => ⟨S1024, .i32⟩
  | 58 => ⟨S1024, .i32⟩
  | 59 => ⟨S1024, .i32⟩
  | 60 => ⟨S1024, .i32⟩
  | 61 => ⟨S1024, .i32⟩
  | 62 => ⟨S1024, .i32⟩
  | 63 => ⟨S_, .i32⟩
  | 64 => ⟨S1024, .i32⟩
  | 65 => ⟨S1024, .i32⟩
  | 66 => ⟨S1024, .i32⟩
  | 67 => ⟨S_, .i32⟩
  | 68 => ⟨S1024, .i32⟩
  | 69 => ⟨S1024, .i32⟩
  | 70 => ⟨S_, .i32⟩
  | 71 => ⟨S1024, .i32⟩
  | 72 => ⟨S1024, .i32⟩
  | 73 => ⟨S1024, .i32⟩
  | 74 => ⟨S1024, .i32⟩
  | 75 => ⟨S1024, .i32⟩
  | 76 => ⟨S_, .i32⟩
  | 77 => ⟨S1024, .i32⟩
  | 78 => ⟨S1024, .i32⟩
  | 79 => ⟨S_, .i32⟩
  | 80 => ⟨S1024, .i32⟩
  | 81 => ⟨S1024, .i32⟩
  | 82 => ⟨S1024, .i32⟩
  | 83 => ⟨S1024, .i32⟩
  | 84 => ⟨S1024, .i32⟩
  | 85 => ⟨S_, .i32⟩
  | 86 => ⟨S1024, .i32⟩
  | 87 => ⟨S1024, .i32⟩
  | 88 => ⟨S_, .i32⟩
  | 89 => ⟨S1024, .i32⟩
  | 90 => ⟨S1024, .i32⟩
  | 91 => ⟨S1024, .i32⟩
  | 92 => ⟨S1024, .i32⟩
  | 93 => ⟨S1024, .i32⟩
  | 94 => ⟨S_, .i32⟩
  | 95 => ⟨S1024, .i32⟩
  | 96 => ⟨S1024, .i32⟩
  | 97 => ⟨S_, .i32⟩
  | 98 => ⟨S1024, .i32⟩
  | 99 => ⟨S1024, .i32⟩
  | 100 => ⟨S1024, .i32⟩
  | 101 => ⟨S1024, .i32⟩
  | 102 => ⟨S1024, .i32⟩
  | 103 => ⟨S1024, .i32⟩
  | 104 => ⟨S1024, .i32⟩
  | 105 => ⟨S1024, .i32⟩
  | 106 => ⟨S_, .i32⟩
  | 107 => ⟨S1024, .i32⟩
  | 108 => ⟨S1024, .i32⟩
  | 109 => ⟨S1024, .i32⟩
  | 110 => ⟨S_, .i32⟩
  | 111 => ⟨S1024, .i32⟩
  | 112 => ⟨S1024, .i32⟩
  | 113 => ⟨S_, .i32⟩
  | 114 => ⟨S1024, .i32⟩
  | 115 => ⟨S1024, .i32⟩
  | 116 => ⟨S1024, .i32⟩
  | 117 => ⟨S1024, .i32⟩
  | 118 => ⟨S1024, .i32⟩
  | 119 => ⟨S_, .i32⟩
  | 120 => ⟨S1024, .i32⟩
  | 121 => ⟨S1024, .i32⟩
  | 122 => ⟨S_, .i32⟩
  | 123 => ⟨S1024, .i32⟩
  | 124 => ⟨S1024, .i32⟩
  | 125 => ⟨S1024, .i32⟩
  | 126 => ⟨S1024, .i32⟩
  | 127 => ⟨S1024, .i32⟩
  | _ => ⟨S96x512x512, .f32⟩

abbrev hbmTy0_3 (i : Nat) : BufTy := match i % 128 with
  | 0 => ⟨S_, .i32⟩
  | 1 => ⟨S1024, .i32⟩
  | 2 => ⟨S1024, .i32⟩
  | 3 => ⟨S_, .i32⟩
  | 4 => ⟨S1024, .i32⟩
  | 5 => ⟨S1024, .i32⟩
  | 6 => ⟨S1024, .i32⟩
  | 7 => ⟨S1024, .i32⟩
  | 8 => ⟨S1024, .i32⟩
  | 9 => ⟨S_, .i32⟩
  | 10 => ⟨S1024, .i32⟩
  | 11 => ⟨S1024, .i32⟩
  | 12 => ⟨S_, .i32⟩
  | 13 => ⟨S1024, .i32⟩
  | 14 => ⟨S1024, .i32⟩
  | 15 => ⟨S1024, .i32⟩
  | 16 => ⟨S1024, .i32⟩
  | 17 => ⟨S1024, .i32⟩
  | 18 => ⟨S1024, .i32⟩
  | 19 => ⟨S1024, .i32⟩
  | 20 => ⟨S1024, .i32⟩
  | 21 => ⟨S_, .i32⟩
  | 22 => ⟨S1024, .i32⟩
  | 23 => ⟨S1024, .i32⟩
  | 24 => ⟨S1024, .i32⟩
  | 25 => ⟨S_, .i32⟩
  | 26 => ⟨S1024, .i32⟩
  | 27 => ⟨S1024, .i32⟩
  | 28 => ⟨S_, .i32⟩
  | 29 => ⟨S1024, .i32⟩
  | 30 => ⟨S1024, .i32⟩
  | 31 => ⟨S1024, .i32⟩
  | 32 => ⟨S1024, .i32⟩
  | 33 => ⟨S1024, .i32⟩
  | 34 => ⟨S_, .i32⟩
  | 35 => ⟨S1024, .i32⟩
  | 36 => ⟨S1024, .i32⟩
  | 37 => ⟨S_, .i32⟩
  | 38 => ⟨S1024, .i32⟩
  | 39 => ⟨S1024, .i32⟩
  | 40 => ⟨S1024, .i32⟩
  | 41 => ⟨S1024, .i32⟩
  | 42 => ⟨S1024, .i32⟩
  | 43 => ⟨S_, .i32⟩
  | 44 => ⟨S1024, .i32⟩
  | 45 => ⟨S1024, .i32⟩
  | 46 => ⟨S_, .i32⟩
  | 47 => ⟨S1024, .i32⟩
  | 48 => ⟨S1024, .i32⟩
  | 49 => ⟨S1024, .i32⟩
  | 50 => ⟨S1024, .i32⟩
  | 51 => ⟨S1024, .i32⟩
  | 52 => ⟨S_, .i32⟩
  | 53 => ⟨S1024, .i32⟩
  | 54 => ⟨S1024, .i32⟩
  | 55 => ⟨S_, .i32⟩
  | 56 => ⟨S1024, .i32⟩
  | 57 => ⟨S1024, .i32⟩
  | 58 => ⟨S1024, .i32⟩
  | 59 => ⟨S1024, .i32⟩
  | 60 => ⟨S1024, .i32⟩
  | 61 => ⟨S1024, .i32⟩
  | 62 => ⟨S1024, .i32⟩
  | 63 => ⟨S1024, .i32⟩
  | 64 => ⟨S_, .i32⟩
  | 65 => ⟨S1024, .i32⟩
  | 66 => ⟨S1024, .i32⟩
  | 67 => ⟨S1024, .i32⟩
  | 68 => ⟨S_, .i32⟩
  | 69 => ⟨S1024, .i32⟩
  | 70 => ⟨S1024, .i32⟩
  | 71 => ⟨S_, .i32⟩
  | 72 => ⟨S1024, .i32⟩
  | 73 => ⟨S1024, .i32⟩
  | 74 => ⟨S1024, .i32⟩
  | 75 => ⟨S1024, .i32⟩
  | 76 => ⟨S1024, .i32⟩
  | 77 => ⟨S_, .i32⟩
  | 78 => ⟨S1024, .i32⟩
  | 79 => ⟨S1024, .i32⟩
  | 80 => ⟨S_, .i32⟩
  | 81 => ⟨S1024, .i32⟩
  | 82 => ⟨S1024, .i32⟩
  | 83 => ⟨S1024, .i32⟩
  | 84 => ⟨S1024, .i32⟩
  | 85 => ⟨S1024, .i32⟩
  | 86 => ⟨S_, .i32⟩
  | 87 => ⟨S1024, .i32⟩
  | 88 => ⟨S1024, .i32⟩
  | 89 => ⟨S_, .i32⟩
  | 90 => ⟨S1024, .i32⟩
  | 91 => ⟨S1024, .i32⟩
  | 92 => ⟨S1024, .i32⟩
  | 93 => ⟨S1024, .i32⟩
  | 94 => ⟨S1024, .i32⟩
  | 95 => ⟨S_, .i32⟩
  | 96 => ⟨S1024, .i32⟩
  | 97 => ⟨S1024, .i32⟩
  | 98 => ⟨S_, .i32⟩
  | 99 => ⟨S1024, .i32⟩
  | 100 => ⟨S1024, .i32⟩
  | 101 => ⟨S1024, .i32⟩
  | 102 => ⟨S1024, .i32⟩
  | 103 => ⟨S1024, .i32⟩
  | 104 => ⟨S1024, .i32⟩
  | 105 => ⟨S1024, .i32⟩
  | 106 => ⟨S1024, .i32⟩
  | 107 => ⟨S_, .i32⟩
  | 108 => ⟨S1024, .i32⟩
  | 109 => ⟨S1024, .i32⟩
  | 110 => ⟨S1024, .i32⟩
  | 111 => ⟨S1024, .i32⟩
  | 112 => ⟨S1024, .i32⟩
  | 113 => ⟨S_, .i32⟩
  | 114 => ⟨S1024, .i32⟩
  | 115 => ⟨S1024, .i1⟩
  | 116 => ⟨S_, .i32⟩
  | 117 => ⟨S1024, .i32⟩
  | 118 => ⟨S1024, .i32⟩
  | 119 => ⟨S1024, .i32⟩
  | 120 => ⟨S1024x1, .i32⟩
  | 121 => ⟨S1024, .f32⟩
  | 122 => ⟨S32x32, .f32⟩
  | 123 => ⟨S_, .f32⟩
  | 124 => ⟨S16x16, .f32⟩
  | 125 => ⟨S32x1x32x1, .f32⟩
  | 126 => ⟨S1x16x1x16, .f32⟩
  | 127 => ⟨S32x16x32x16, .f32⟩
  | _ => ⟨S96x512x512, .f32⟩

abbrev hbmTy0_4 (i : Nat) : BufTy := match i % 128 with
  | 0 => ⟨S32x16x32x16, .f32⟩
  | 1 => ⟨S32x16x32x16, .f32⟩
  | 2 => ⟨S512x512, .f32⟩
  | 3 => ⟨S96x512x512, .f32⟩
  | _ => ⟨S96x512x512, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S96x512x512, .f32⟩

abbrev bufTy : (tb : Table) → Fin (tcTables nBuf tb) → BufTy
  | .hbm, ⟨i, _⟩ => hbmTy i
  | .local _ .vmem, ⟨0, _⟩ => ⟨S512x512, .f32⟩
  | .local _ .vmem, ⟨1, _⟩ => ⟨S8x512x512, .f32⟩
  | .local _ .vmem, ⟨2, _⟩ => ⟨S8x512x512, .f32⟩
  | .local _ .vmem, ⟨3, _⟩ => ⟨S8x512x512, .f32⟩
  | .local _ .vmem, ⟨4, _⟩ => ⟨S8x512x512, .f32⟩
  | _, _ => ⟨S96x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_c_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_call0_call0_v0 : Ref sig .tc := ⟨.hbm, 17, rfl⟩
abbrev main_call0_call0_v1 : Ref sig .tc := ⟨.hbm, 18, rfl⟩
abbrev main_call0_call0_v2 : Ref sig .tc := ⟨.hbm, 19, rfl⟩
abbrev main_call0_call0_v3 : Ref sig .tc := ⟨.hbm, 20, rfl⟩
abbrev main_call0_call0_v4 : Ref sig .tc := ⟨.hbm, 21, rfl⟩
abbrev main_call0_call0_c : Ref sig .tc := ⟨.hbm, 22, rfl⟩
abbrev main_call0_call0_v5 : Ref sig .tc := ⟨.hbm, 23, rfl⟩
abbrev main_call0_call0_v6 : Ref sig .tc := ⟨.hbm, 24, rfl⟩
abbrev main_call0_call0_c_0 : Ref sig .tc := ⟨.hbm, 25, rfl⟩
abbrev main_call0_call0_v7 : Ref sig .tc := ⟨.hbm, 26, rfl⟩
abbrev main_call0_call0_v8 : Ref sig .tc := ⟨.hbm, 27, rfl⟩
abbrev main_call0_call0_v9 : Ref sig .tc := ⟨.hbm, 28, rfl⟩
abbrev main_call0_call0_v10 : Ref sig .tc := ⟨.hbm, 29, rfl⟩
abbrev main_call0_call0_call0_v0 : Ref sig .tc := ⟨.hbm, 30, rfl⟩
abbrev main_call0_call0_call0_c : Ref sig .tc := ⟨.hbm, 31, rfl⟩
abbrev main_call0_call0_call0_v1 : Ref sig .tc := ⟨.hbm, 32, rfl⟩
abbrev main_call0_call0_call0_v2 : Ref sig .tc := ⟨.hbm, 33, rfl⟩
abbrev main_call0_call0_call0_v3 : Ref sig .tc := ⟨.hbm, 34, rfl⟩
abbrev main_call0_call0_call0_v4 : Ref sig .tc := ⟨.hbm, 35, rfl⟩
abbrev main_call0_call0_call0_v5 : Ref sig .tc := ⟨.hbm, 36, rfl⟩
abbrev main_call0_call0_call0_v6 : Ref sig .tc := ⟨.hbm, 37, rfl⟩
abbrev main_call0_call0_call0_c_0 : Ref sig .tc := ⟨.hbm, 38, rfl⟩
abbrev main_call0_call0_call0_v7 : Ref sig .tc := ⟨.hbm, 39, rfl⟩
abbrev main_call0_call0_call0_v8 : Ref sig .tc := ⟨.hbm, 40, rfl⟩
abbrev main_call0_call0_call0_c_1 : Ref sig .tc := ⟨.hbm, 41, rfl⟩
abbrev main_call0_call0_call0_v9 : Ref sig .tc := ⟨.hbm, 42, rfl⟩
abbrev main_call0_call0_call0_v10 : Ref sig .tc := ⟨.hbm, 43, rfl⟩
abbrev main_call0_call0_call0_v11 : Ref sig .tc := ⟨.hbm, 44, rfl⟩
abbrev main_call0_call0_call0_v12 : Ref sig .tc := ⟨.hbm, 45, rfl⟩
abbrev main_call0_call0_call0_v13 : Ref sig .tc := ⟨.hbm, 46, rfl⟩
abbrev main_call0_call0_call0_c_2 : Ref sig .tc := ⟨.hbm, 47, rfl⟩
abbrev main_call0_call0_call0_v14 : Ref sig .tc := ⟨.hbm, 48, rfl⟩
abbrev main_call0_call0_call0_v15 : Ref sig .tc := ⟨.hbm, 49, rfl⟩
abbrev main_call0_call0_call0_c_3 : Ref sig .tc := ⟨.hbm, 50, rfl⟩
abbrev main_call0_call0_call0_v16 : Ref sig .tc := ⟨.hbm, 51, rfl⟩
abbrev main_call0_call0_call0_v17 : Ref sig .tc := ⟨.hbm, 52, rfl⟩
abbrev main_call0_call0_call0_v18 : Ref sig .tc := ⟨.hbm, 53, rfl⟩
abbrev main_call0_call0_call0_v19 : Ref sig .tc := ⟨.hbm, 54, rfl⟩
abbrev main_call0_call0_call0_v20 : Ref sig .tc := ⟨.hbm, 55, rfl⟩
abbrev main_call0_call0_call0_c_4 : Ref sig .tc := ⟨.hbm, 56, rfl⟩
abbrev main_call0_call0_call0_v21 : Ref sig .tc := ⟨.hbm, 57, rfl⟩
abbrev main_call0_call0_call0_v22 : Ref sig .tc := ⟨.hbm, 58, rfl⟩
abbrev main_call0_call0_call0_c_5 : Ref sig .tc := ⟨.hbm, 59, rfl⟩
abbrev main_call0_call0_call0_v23 : Ref sig .tc := ⟨.hbm, 60, rfl⟩
abbrev main_call0_call0_call0_v24 : Ref sig .tc := ⟨.hbm, 61, rfl⟩
abbrev main_call0_call0_call0_v25 : Ref sig .tc := ⟨.hbm, 62, rfl⟩
abbrev main_call0_call0_call0_v26 : Ref sig .tc := ⟨.hbm, 63, rfl⟩
abbrev main_call0_call0_call0_v27 : Ref sig .tc := ⟨.hbm, 64, rfl⟩
abbrev main_call0_call0_call0_c_6 : Ref sig .tc := ⟨.hbm, 65, rfl⟩
abbrev main_call0_call0_call0_v28 : Ref sig .tc := ⟨.hbm, 66, rfl⟩
abbrev main_call0_call0_call0_v29 : Ref sig .tc := ⟨.hbm, 67, rfl⟩
abbrev main_call0_call0_call0_c_7 : Ref sig .tc := ⟨.hbm, 68, rfl⟩
abbrev main_call0_call0_call0_v30 : Ref sig .tc := ⟨.hbm, 69, rfl⟩
abbrev main_call0_call0_call0_v31 : Ref sig .tc := ⟨.hbm, 70, rfl⟩
abbrev main_call0_call0_call0_v32 : Ref sig .tc := ⟨.hbm, 71, rfl⟩
abbrev main_call0_call0_call0_v33 : Ref sig .tc := ⟨.hbm, 72, rfl⟩
abbrev main_call0_call0_call0_v34 : Ref sig .tc := ⟨.hbm, 73, rfl⟩
abbrev main_call0_call0_call0_v35 : Ref sig .tc := ⟨.hbm, 74, rfl⟩
abbrev main_call0_call0_call0_v36 : Ref sig .tc := ⟨.hbm, 75, rfl⟩
abbrev main_call0_call0_call0_v37 : Ref sig .tc := ⟨.hbm, 76, rfl⟩
abbrev main_call0_call0_call0_c_8 : Ref sig .tc := ⟨.hbm, 77, rfl⟩
abbrev main_call0_call0_call0_v38 : Ref sig .tc := ⟨.hbm, 78, rfl⟩
abbrev main_call0_call0_call0_v39 : Ref sig .tc := ⟨.hbm, 79, rfl⟩
abbrev main_call0_call0_call0_v40 : Ref sig .tc := ⟨.hbm, 80, rfl⟩
abbrev main_call0_call0_call0_c_9 : Ref sig .tc := ⟨.hbm, 81, rfl⟩
abbrev main_call0_call0_call0_v41 : Ref sig .tc := ⟨.hbm, 82, rfl⟩
abbrev main_call0_call0_call0_v42 : Ref sig .tc := ⟨.hbm, 83, rfl⟩
abbrev main_call0_call0_call0_c_10 : Ref sig .tc := ⟨.hbm, 84, rfl⟩
abbrev main_call0_call0_call0_v43 : Ref sig .tc := ⟨.hbm, 85, rfl⟩
abbrev main_call0_call0_call0_v44 : Ref sig .tc := ⟨.hbm, 86, rfl⟩
abbrev main_call0_call0_call0_v45 : Ref sig .tc := ⟨.hbm, 87, rfl⟩
abbrev main_call0_call0_call0_v46 : Ref sig .tc := ⟨.hbm, 88, rfl⟩
abbrev main_call0_call0_call0_v47 : Ref sig .tc := ⟨.hbm, 89, rfl⟩
abbrev main_call0_call0_call0_c_11 : Ref sig .tc := ⟨.hbm, 90, rfl⟩
abbrev main_call0_call0_call0_v48 : Ref sig .tc := ⟨.hbm, 91, rfl⟩
abbrev main_call0_call0_call0_v49 : Ref sig .tc := ⟨.hbm, 92, rfl⟩
abbrev main_call0_call0_call0_c_12 : Ref sig .tc := ⟨.hbm, 93, rfl⟩
abbrev main_call0_call0_call0_v50 : Ref sig .tc := ⟨.hbm, 94, rfl⟩
abbrev main_call0_call0_call0_v51 : Ref sig .tc := ⟨.hbm, 95, rfl⟩
abbrev main_call0_call0_call0_v52 : Ref sig .tc := ⟨.hbm, 96, rfl⟩
abbrev main_call0_call0_call0_v53 : Ref sig .tc := ⟨.hbm, 97, rfl⟩
abbrev main_call0_call0_call0_v54 : Ref sig .tc := ⟨.hbm, 98, rfl⟩
abbrev main_call0_call0_call0_c_13 : Ref sig .tc := ⟨.hbm, 99, rfl⟩
abbrev main_call0_call0_call0_v55 : Ref sig .tc := ⟨.hbm, 100, rfl⟩
abbrev main_call0_call0_call0_v56 : Ref sig .tc := ⟨.hbm, 101, rfl⟩
abbrev main_call0_call0_call0_c_14 : Ref sig .tc := ⟨.hbm, 102, rfl⟩
abbrev main_call0_call0_call0_v57 : Ref sig .tc := ⟨.hbm, 103, rfl⟩
abbrev main_call0_call0_call0_v58 : Ref sig .tc := ⟨.hbm, 104, rfl⟩
abbrev main_call0_call0_call0_v59 : Ref sig .tc := ⟨.hbm, 105, rfl⟩
abbrev main_call0_call0_call0_v60 : Ref sig .tc := ⟨.hbm, 106, rfl⟩
abbrev main_call0_call0_call0_v61 : Ref sig .tc := ⟨.hbm, 107, rfl⟩
abbrev main_call0_call0_call0_c_15 : Ref sig .tc := ⟨.hbm, 108, rfl⟩
abbrev main_call0_call0_call0_v62 : Ref sig .tc := ⟨.hbm, 109, rfl⟩
abbrev main_call0_call0_call0_v63 : Ref sig .tc := ⟨.hbm, 110, rfl⟩
abbrev main_call0_call0_call0_c_16 : Ref sig .tc := ⟨.hbm, 111, rfl⟩
abbrev main_call0_call0_call0_v64 : Ref sig .tc := ⟨.hbm, 112, rfl⟩
abbrev main_call0_call0_call0_v65 : Ref sig .tc := ⟨.hbm, 113, rfl⟩
abbrev main_call0_call0_call0_v66 : Ref sig .tc := ⟨.hbm, 114, rfl⟩
abbrev main_call0_call0_call0_v67 : Ref sig .tc := ⟨.hbm, 115, rfl⟩
abbrev main_call0_call0_call0_v68 : Ref sig .tc := ⟨.hbm, 116, rfl⟩
abbrev main_call0_call0_call0_v69 : Ref sig .tc := ⟨.hbm, 117, rfl⟩
abbrev main_call0_call0_call0_v70 : Ref sig .tc := ⟨.hbm, 118, rfl⟩
abbrev main_call0_call0_call0_v71 : Ref sig .tc := ⟨.hbm, 119, rfl⟩
abbrev main_call0_call0_call0_c_17 : Ref sig .tc := ⟨.hbm, 120, rfl⟩
abbrev main_call0_call0_call0_v72 : Ref sig .tc := ⟨.hbm, 121, rfl⟩
abbrev main_call0_call0_call0_v73 : Ref sig .tc := ⟨.hbm, 122, rfl⟩
abbrev main_call0_call0_call0_v74 : Ref sig .tc := ⟨.hbm, 123, rfl⟩
abbrev main_call0_call0_call0_c_18 : Ref sig .tc := ⟨.hbm, 124, rfl⟩
abbrev main_call0_call0_call0_v75 : Ref sig .tc := ⟨.hbm, 125, rfl⟩
abbrev main_call0_call0_call0_v76 : Ref sig .tc := ⟨.hbm, 126, rfl⟩
abbrev main_call0_call0_call0_c_19 : Ref sig .tc := ⟨.hbm, 127, rfl⟩
abbrev main_call0_call0_call0_v77 : Ref sig .tc := ⟨.hbm, 128, rfl⟩
abbrev main_call0_call0_call0_v78 : Ref sig .tc := ⟨.hbm, 129, rfl⟩
abbrev main_call0_call0_call0_v79 : Ref sig .tc := ⟨.hbm, 130, rfl⟩
abbrev main_call0_call0_call0_v80 : Ref sig .tc := ⟨.hbm, 131, rfl⟩
abbrev main_call0_call0_call0_v81 : Ref sig .tc := ⟨.hbm, 132, rfl⟩
abbrev main_call0_call0_call0_c_20 : Ref sig .tc := ⟨.hbm, 133, rfl⟩
abbrev main_call0_call0_call0_v82 : Ref sig .tc := ⟨.hbm, 134, rfl⟩
abbrev main_call0_call0_call0_v83 : Ref sig .tc := ⟨.hbm, 135, rfl⟩
abbrev main_call0_call0_call0_c_21 : Ref sig .tc := ⟨.hbm, 136, rfl⟩
abbrev main_call0_call0_call0_v84 : Ref sig .tc := ⟨.hbm, 137, rfl⟩
abbrev main_call0_call0_call0_v85 : Ref sig .tc := ⟨.hbm, 138, rfl⟩
abbrev main_call0_call0_call0_v86 : Ref sig .tc := ⟨.hbm, 139, rfl⟩
abbrev main_call0_call0_call0_v87 : Ref sig .tc := ⟨.hbm, 140, rfl⟩
abbrev main_call0_call0_call0_v88 : Ref sig .tc := ⟨.hbm, 141, rfl⟩
abbrev main_call0_call0_call0_c_22 : Ref sig .tc := ⟨.hbm, 142, rfl⟩
abbrev main_call0_call0_call0_v89 : Ref sig .tc := ⟨.hbm, 143, rfl⟩
abbrev main_call0_call0_call0_v90 : Ref sig .tc := ⟨.hbm, 144, rfl⟩
abbrev main_call0_call0_call0_c_23 : Ref sig .tc := ⟨.hbm, 145, rfl⟩
abbrev main_call0_call0_call0_v91 : Ref sig .tc := ⟨.hbm, 146, rfl⟩
abbrev main_call0_call0_call0_v92 : Ref sig .tc := ⟨.hbm, 147, rfl⟩
abbrev main_call0_call0_call0_v93 : Ref sig .tc := ⟨.hbm, 148, rfl⟩
abbrev main_call0_call0_call0_v94 : Ref sig .tc := ⟨.hbm, 149, rfl⟩
abbrev main_call0_call0_call0_v95 : Ref sig .tc := ⟨.hbm, 150, rfl⟩
abbrev main_call0_call0_call0_c_24 : Ref sig .tc := ⟨.hbm, 151, rfl⟩
abbrev main_call0_call0_call0_v96 : Ref sig .tc := ⟨.hbm, 152, rfl⟩
abbrev main_call0_call0_call0_v97 : Ref sig .tc := ⟨.hbm, 153, rfl⟩
abbrev main_call0_call0_call0_c_25 : Ref sig .tc := ⟨.hbm, 154, rfl⟩
abbrev main_call0_call0_call0_v98 : Ref sig .tc := ⟨.hbm, 155, rfl⟩
abbrev main_call0_call0_call0_v99 : Ref sig .tc := ⟨.hbm, 156, rfl⟩
abbrev main_call0_call0_call0_v100 : Ref sig .tc := ⟨.hbm, 157, rfl⟩
abbrev main_call0_call0_call0_v101 : Ref sig .tc := ⟨.hbm, 158, rfl⟩
abbrev main_call0_call0_call0_v102 : Ref sig .tc := ⟨.hbm, 159, rfl⟩
abbrev main_call0_call0_call0_v103 : Ref sig .tc := ⟨.hbm, 160, rfl⟩
abbrev main_call0_call0_call0_v104 : Ref sig .tc := ⟨.hbm, 161, rfl⟩
abbrev main_call0_call0_call0_v105 : Ref sig .tc := ⟨.hbm, 162, rfl⟩
abbrev main_call0_call0_call0_c_26 : Ref sig .tc := ⟨.hbm, 163, rfl⟩
abbrev main_call0_call0_call0_v106 : Ref sig .tc := ⟨.hbm, 164, rfl⟩
abbrev main_call0_call0_call0_v107 : Ref sig .tc := ⟨.hbm, 165, rfl⟩
abbrev main_call0_call0_call0_v108 : Ref sig .tc := ⟨.hbm, 166, rfl⟩
abbrev main_call0_call0_call0_c_27 : Ref sig .tc := ⟨.hbm, 167, rfl⟩
abbrev main_call0_call0_call0_v109 : Ref sig .tc := ⟨.hbm, 168, rfl⟩
abbrev main_call0_call0_call0_v110 : Ref sig .tc := ⟨.hbm, 169, rfl⟩
abbrev main_call0_call0_call0_c_28 : Ref sig .tc := ⟨.hbm, 170, rfl⟩
abbrev main_call0_call0_call0_v111 : Ref sig .tc := ⟨.hbm, 171, rfl⟩
abbrev main_call0_call0_call0_v112 : Ref sig .tc := ⟨.hbm, 172, rfl⟩
abbrev main_call0_call0_call0_v113 : Ref sig .tc := ⟨.hbm, 173, rfl⟩
abbrev main_call0_call0_call0_v114 : Ref sig .tc := ⟨.hbm, 174, rfl⟩
abbrev main_call0_call0_call0_v115 : Ref sig .tc := ⟨.hbm, 175, rfl⟩
abbrev main_call0_call0_call0_c_29 : Ref sig .tc := ⟨.hbm, 176, rfl⟩
abbrev main_call0_call0_call0_v116 : Ref sig .tc := ⟨.hbm, 177, rfl⟩
abbrev main_call0_call0_call0_v117 : Ref sig .tc := ⟨.hbm, 178, rfl⟩
abbrev main_call0_call0_call0_c_30 : Ref sig .tc := ⟨.hbm, 179, rfl⟩
abbrev main_call0_call0_call0_v118 : Ref sig .tc := ⟨.hbm, 180, rfl⟩
abbrev main_call0_call0_call0_v119 : Ref sig .tc := ⟨.hbm, 181, rfl⟩
abbrev main_call0_call0_call0_v120 : Ref sig .tc := ⟨.hbm, 182, rfl⟩
abbrev main_call0_call0_call0_v121 : Ref sig .tc := ⟨.hbm, 183, rfl⟩
abbrev main_call0_call0_call0_v122 : Ref sig .tc := ⟨.hbm, 184, rfl⟩
abbrev main_call0_call0_call0_c_31 : Ref sig .tc := ⟨.hbm, 185, rfl⟩
abbrev main_call0_call0_call0_v123 : Ref sig .tc := ⟨.hbm, 186, rfl⟩
abbrev main_call0_call0_call0_v124 : Ref sig .tc := ⟨.hbm, 187, rfl⟩
abbrev main_call0_call0_call0_c_32 : Ref sig .tc := ⟨.hbm, 188, rfl⟩
abbrev main_call0_call0_call0_v125 : Ref sig .tc := ⟨.hbm, 189, rfl⟩
abbrev main_call0_call0_call0_v126 : Ref sig .tc := ⟨.hbm, 190, rfl⟩
abbrev main_call0_call0_call0_v127 : Ref sig .tc := ⟨.hbm, 191, rfl⟩
abbrev main_call0_call0_call0_v128 : Ref sig .tc := ⟨.hbm, 192, rfl⟩
abbrev main_call0_call0_call0_v129 : Ref sig .tc := ⟨.hbm, 193, rfl⟩
abbrev main_call0_call0_call0_c_33 : Ref sig .tc := ⟨.hbm, 194, rfl⟩
abbrev main_call0_call0_call0_v130 : Ref sig .tc := ⟨.hbm, 195, rfl⟩
abbrev main_call0_call0_call0_v131 : Ref sig .tc := ⟨.hbm, 196, rfl⟩
abbrev main_call0_call0_call0_c_34 : Ref sig .tc := ⟨.hbm, 197, rfl⟩
abbrev main_call0_call0_call0_v132 : Ref sig .tc := ⟨.hbm, 198, rfl⟩
abbrev main_call0_call0_call0_v133 : Ref sig .tc := ⟨.hbm, 199, rfl⟩
abbrev main_call0_call0_call0_v134 : Ref sig .tc := ⟨.hbm, 200, rfl⟩
abbrev main_call0_call0_call0_v135 : Ref sig .tc := ⟨.hbm, 201, rfl⟩
abbrev main_call0_call0_call0_v136 : Ref sig .tc := ⟨.hbm, 202, rfl⟩
abbrev main_call0_call0_call0_v137 : Ref sig .tc := ⟨.hbm, 203, rfl⟩
abbrev main_call0_call0_call0_v138 : Ref sig .tc := ⟨.hbm, 204, rfl⟩
abbrev main_call0_call0_call0_v139 : Ref sig .tc := ⟨.hbm, 205, rfl⟩
abbrev main_call0_call0_call0_c_35 : Ref sig .tc := ⟨.hbm, 206, rfl⟩
abbrev main_call0_call0_call0_v140 : Ref sig .tc := ⟨.hbm, 207, rfl⟩
abbrev main_call0_call0_call0_v141 : Ref sig .tc := ⟨.hbm, 208, rfl⟩
abbrev main_call0_call0_call0_v142 : Ref sig .tc := ⟨.hbm, 209, rfl⟩
abbrev main_call0_call0_call0_c_36 : Ref sig .tc := ⟨.hbm, 210, rfl⟩
abbrev main_call0_call0_call0_v143 : Ref sig .tc := ⟨.hbm, 211, rfl⟩
abbrev main_call0_call0_call0_v144 : Ref sig .tc := ⟨.hbm, 212, rfl⟩
abbrev main_call0_call0_call0_c_37 : Ref sig .tc := ⟨.hbm, 213, rfl⟩
abbrev main_call0_call0_call0_v145 : Ref sig .tc := ⟨.hbm, 214, rfl⟩
abbrev main_call0_call0_call0_v146 : Ref sig .tc := ⟨.hbm, 215, rfl⟩
abbrev main_call0_call0_call0_v147 : Ref sig .tc := ⟨.hbm, 216, rfl⟩
abbrev main_call0_call0_call0_v148 : Ref sig .tc := ⟨.hbm, 217, rfl⟩
abbrev main_call0_call0_call0_v149 : Ref sig .tc := ⟨.hbm, 218, rfl⟩
abbrev main_call0_call0_call0_c_38 : Ref sig .tc := ⟨.hbm, 219, rfl⟩
abbrev main_call0_call0_call0_v150 : Ref sig .tc := ⟨.hbm, 220, rfl⟩
abbrev main_call0_call0_call0_v151 : Ref sig .tc := ⟨.hbm, 221, rfl⟩
abbrev main_call0_call0_call0_c_39 : Ref sig .tc := ⟨.hbm, 222, rfl⟩
abbrev main_call0_call0_call0_v152 : Ref sig .tc := ⟨.hbm, 223, rfl⟩
abbrev main_call0_call0_call0_v153 : Ref sig .tc := ⟨.hbm, 224, rfl⟩
abbrev main_call0_call0_call0_v154 : Ref sig .tc := ⟨.hbm, 225, rfl⟩
abbrev main_call0_call0_call0_v155 : Ref sig .tc := ⟨.hbm, 226, rfl⟩
abbrev main_call0_call0_call0_v156 : Ref sig .tc := ⟨.hbm, 227, rfl⟩
abbrev main_call0_call0_call0_c_40 : Ref sig .tc := ⟨.hbm, 228, rfl⟩
abbrev main_call0_call0_call0_v157 : Ref sig .tc := ⟨.hbm, 229, rfl⟩
abbrev main_call0_call0_call0_v158 : Ref sig .tc := ⟨.hbm, 230, rfl⟩
abbrev main_call0_call0_call0_c_41 : Ref sig .tc := ⟨.hbm, 231, rfl⟩
abbrev main_call0_call0_call0_v159 : Ref sig .tc := ⟨.hbm, 232, rfl⟩
abbrev main_call0_call0_call0_v160 : Ref sig .tc := ⟨.hbm, 233, rfl⟩
abbrev main_call0_call0_call0_v161 : Ref sig .tc := ⟨.hbm, 234, rfl⟩
abbrev main_call0_call0_call0_v162 : Ref sig .tc := ⟨.hbm, 235, rfl⟩
abbrev main_call0_call0_call0_v163 : Ref sig .tc := ⟨.hbm, 236, rfl⟩
abbrev main_call0_call0_call0_c_42 : Ref sig .tc := ⟨.hbm, 237, rfl⟩
abbrev main_call0_call0_call0_v164 : Ref sig .tc := ⟨.hbm, 238, rfl⟩
abbrev main_call0_call0_call0_v165 : Ref sig .tc := ⟨.hbm, 239, rfl⟩
abbrev main_call0_call0_call0_c_43 : Ref sig .tc := ⟨.hbm, 240, rfl⟩
abbrev main_call0_call0_call0_v166 : Ref sig .tc := ⟨.hbm, 241, rfl⟩
abbrev main_call0_call0_call0_v167 : Ref sig .tc := ⟨.hbm, 242, rfl⟩
abbrev main_call0_call0_call0_v168 : Ref sig .tc := ⟨.hbm, 243, rfl⟩
abbrev main_call0_call0_call0_v169 : Ref sig .tc := ⟨.hbm, 244, rfl⟩
abbrev main_call0_call0_call0_v170 : Ref sig .tc := ⟨.hbm, 245, rfl⟩
abbrev main_call0_call0_v11_0 : Ref sig .tc := ⟨.hbm, 246, rfl⟩
abbrev main_call0_call0_call0_v172 : Ref sig .tc := ⟨.hbm, 247, rfl⟩
abbrev main_call0_call0_call0_v173 : Ref sig .tc := ⟨.hbm, 248, rfl⟩
abbrev main_call0_call0_call0_c_44 : Ref sig .tc := ⟨.hbm, 249, rfl⟩
abbrev main_call0_call0_call0_v174 : Ref sig .tc := ⟨.hbm, 250, rfl⟩
abbrev main_call0_call0_v11_1 : Ref sig .tc := ⟨.hbm, 251, rfl⟩
abbrev main_call0_call0_v12 : Ref sig .tc := ⟨.hbm, 252, rfl⟩
abbrev main_call0_call0_v13 : Ref sig .tc := ⟨.hbm, 253, rfl⟩
abbrev main_call0_v0 : Ref sig .tc := ⟨.hbm, 254, rfl⟩
abbrev main_call0_v1 : Ref sig .tc := ⟨.hbm, 255, rfl⟩
abbrev main_call0_v2 : Ref sig .tc := ⟨.hbm, 256, rfl⟩
abbrev main_call0_v3 : Ref sig .tc := ⟨.hbm, 257, rfl⟩
abbrev main_call0_v4 : Ref sig .tc := ⟨.hbm, 258, rfl⟩
abbrev main_call0_v5 : Ref sig .tc := ⟨.hbm, 259, rfl⟩
abbrev main_call0_v6 : Ref sig .tc := ⟨.hbm, 260, rfl⟩
abbrev main_call0_v7 : Ref sig .tc := ⟨.hbm, 261, rfl⟩
abbrev main_call0_v8 : Ref sig .tc := ⟨.hbm, 262, rfl⟩
abbrev main_call0_v9 : Ref sig .tc := ⟨.hbm, 263, rfl⟩
abbrev main_call0_c : Ref sig .tc := ⟨.hbm, 264, rfl⟩
abbrev main_call0_v10 : Ref sig .tc := ⟨.hbm, 265, rfl⟩
abbrev main_call0_v11 : Ref sig .tc := ⟨.hbm, 266, rfl⟩
abbrev main_call0_c_0 : Ref sig .tc := ⟨.hbm, 267, rfl⟩
abbrev main_call0_v12 : Ref sig .tc := ⟨.hbm, 268, rfl⟩
abbrev main_call0_v13 : Ref sig .tc := ⟨.hbm, 269, rfl⟩
abbrev main_call0_v14 : Ref sig .tc := ⟨.hbm, 270, rfl⟩
abbrev main_call0_v15 : Ref sig .tc := ⟨.hbm, 271, rfl⟩
abbrev main_call0_call1_v0 : Ref sig .tc := ⟨.hbm, 272, rfl⟩
abbrev main_call0_call1_c : Ref sig .tc := ⟨.hbm, 273, rfl⟩
abbrev main_call0_call1_v1 : Ref sig .tc := ⟨.hbm, 274, rfl⟩
abbrev main_call0_call1_v2 : Ref sig .tc := ⟨.hbm, 275, rfl⟩
abbrev main_call0_call1_v3 : Ref sig .tc := ⟨.hbm, 276, rfl⟩
abbrev main_call0_call1_v4 : Ref sig .tc := ⟨.hbm, 277, rfl⟩
abbrev main_call0_call1_v5 : Ref sig .tc := ⟨.hbm, 278, rfl⟩
abbrev main_call0_call1_v6 : Ref sig .tc := ⟨.hbm, 279, rfl⟩
abbrev main_call0_call1_c_0 : Ref sig .tc := ⟨.hbm, 280, rfl⟩
abbrev main_call0_call1_v7 : Ref sig .tc := ⟨.hbm, 281, rfl⟩
abbrev main_call0_call1_v8 : Ref sig .tc := ⟨.hbm, 282, rfl⟩
abbrev main_call0_call1_c_1 : Ref sig .tc := ⟨.hbm, 283, rfl⟩
abbrev main_call0_call1_v9 : Ref sig .tc := ⟨.hbm, 284, rfl⟩
abbrev main_call0_call1_v10 : Ref sig .tc := ⟨.hbm, 285, rfl⟩
abbrev main_call0_call1_v11 : Ref sig .tc := ⟨.hbm, 286, rfl⟩
abbrev main_call0_call1_v12 : Ref sig .tc := ⟨.hbm, 287, rfl⟩
abbrev main_call0_call1_v13 : Ref sig .tc := ⟨.hbm, 288, rfl⟩
abbrev main_call0_call1_c_2 : Ref sig .tc := ⟨.hbm, 289, rfl⟩
abbrev main_call0_call1_v14 : Ref sig .tc := ⟨.hbm, 290, rfl⟩
abbrev main_call0_call1_v15 : Ref sig .tc := ⟨.hbm, 291, rfl⟩
abbrev main_call0_call1_c_3 : Ref sig .tc := ⟨.hbm, 292, rfl⟩
abbrev main_call0_call1_v16 : Ref sig .tc := ⟨.hbm, 293, rfl⟩
abbrev main_call0_call1_v17 : Ref sig .tc := ⟨.hbm, 294, rfl⟩
abbrev main_call0_call1_v18 : Ref sig .tc := ⟨.hbm, 295, rfl⟩
abbrev main_call0_call1_v19 : Ref sig .tc := ⟨.hbm, 296, rfl⟩
abbrev main_call0_call1_v20 : Ref sig .tc := ⟨.hbm, 297, rfl⟩
abbrev main_call0_call1_c_4 : Ref sig .tc := ⟨.hbm, 298, rfl⟩
abbrev main_call0_call1_v21 : Ref sig .tc := ⟨.hbm, 299, rfl⟩
abbrev main_call0_call1_v22 : Ref sig .tc := ⟨.hbm, 300, rfl⟩
abbrev main_call0_call1_c_5 : Ref sig .tc := ⟨.hbm, 301, rfl⟩
abbrev main_call0_call1_v23 : Ref sig .tc := ⟨.hbm, 302, rfl⟩
abbrev main_call0_call1_v24 : Ref sig .tc := ⟨.hbm, 303, rfl⟩
abbrev main_call0_call1_v25 : Ref sig .tc := ⟨.hbm, 304, rfl⟩
abbrev main_call0_call1_v26 : Ref sig .tc := ⟨.hbm, 305, rfl⟩
abbrev main_call0_call1_v27 : Ref sig .tc := ⟨.hbm, 306, rfl⟩
abbrev main_call0_call1_c_6 : Ref sig .tc := ⟨.hbm, 307, rfl⟩
abbrev main_call0_call1_v28 : Ref sig .tc := ⟨.hbm, 308, rfl⟩
abbrev main_call0_call1_v29 : Ref sig .tc := ⟨.hbm, 309, rfl⟩
abbrev main_call0_call1_c_7 : Ref sig .tc := ⟨.hbm, 310, rfl⟩
abbrev main_call0_call1_v30 : Ref sig .tc := ⟨.hbm, 311, rfl⟩
abbrev main_call0_call1_v31 : Ref sig .tc := ⟨.hbm, 312, rfl⟩
abbrev main_call0_call1_v32 : Ref sig .tc := ⟨.hbm, 313, rfl⟩
abbrev main_call0_call1_v33 : Ref sig .tc := ⟨.hbm, 314, rfl⟩
abbrev main_call0_call1_v34 : Ref sig .tc := ⟨.hbm, 315, rfl⟩
abbrev main_call0_call1_v35 : Ref sig .tc := ⟨.hbm, 316, rfl⟩
abbrev main_call0_call1_v36 : Ref sig .tc := ⟨.hbm, 317, rfl⟩
abbrev main_call0_call1_v37 : Ref sig .tc := ⟨.hbm, 318, rfl⟩
abbrev main_call0_call1_c_8 : Ref sig .tc := ⟨.hbm, 319, rfl⟩
abbrev main_call0_call1_v38 : Ref sig .tc := ⟨.hbm, 320, rfl⟩
abbrev main_call0_call1_v39 : Ref sig .tc := ⟨.hbm, 321, rfl⟩
abbrev main_call0_call1_v40 : Ref sig .tc := ⟨.hbm, 322, rfl⟩
abbrev main_call0_call1_c_9 : Ref sig .tc := ⟨.hbm, 323, rfl⟩
abbrev main_call0_call1_v41 : Ref sig .tc := ⟨.hbm, 324, rfl⟩
abbrev main_call0_call1_v42 : Ref sig .tc := ⟨.hbm, 325, rfl⟩
abbrev main_call0_call1_c_10 : Ref sig .tc := ⟨.hbm, 326, rfl⟩
abbrev main_call0_call1_v43 : Ref sig .tc := ⟨.hbm, 327, rfl⟩
abbrev main_call0_call1_v44 : Ref sig .tc := ⟨.hbm, 328, rfl⟩
abbrev main_call0_call1_v45 : Ref sig .tc := ⟨.hbm, 329, rfl⟩
abbrev main_call0_call1_v46 : Ref sig .tc := ⟨.hbm, 330, rfl⟩
abbrev main_call0_call1_v47 : Ref sig .tc := ⟨.hbm, 331, rfl⟩
abbrev main_call0_call1_c_11 : Ref sig .tc := ⟨.hbm, 332, rfl⟩
abbrev main_call0_call1_v48 : Ref sig .tc := ⟨.hbm, 333, rfl⟩
abbrev main_call0_call1_v49 : Ref sig .tc := ⟨.hbm, 334, rfl⟩
abbrev main_call0_call1_c_12 : Ref sig .tc := ⟨.hbm, 335, rfl⟩
abbrev main_call0_call1_v50 : Ref sig .tc := ⟨.hbm, 336, rfl⟩
abbrev main_call0_call1_v51 : Ref sig .tc := ⟨.hbm, 337, rfl⟩
abbrev main_call0_call1_v52 : Ref sig .tc := ⟨.hbm, 338, rfl⟩
abbrev main_call0_call1_v53 : Ref sig .tc := ⟨.hbm, 339, rfl⟩
abbrev main_call0_call1_v54 : Ref sig .tc := ⟨.hbm, 340, rfl⟩
abbrev main_call0_call1_c_13 : Ref sig .tc := ⟨.hbm, 341, rfl⟩
abbrev main_call0_call1_v55 : Ref sig .tc := ⟨.hbm, 342, rfl⟩
abbrev main_call0_call1_v56 : Ref sig .tc := ⟨.hbm, 343, rfl⟩
abbrev main_call0_call1_c_14 : Ref sig .tc := ⟨.hbm, 344, rfl⟩
abbrev main_call0_call1_v57 : Ref sig .tc := ⟨.hbm, 345, rfl⟩
abbrev main_call0_call1_v58 : Ref sig .tc := ⟨.hbm, 346, rfl⟩
abbrev main_call0_call1_v59 : Ref sig .tc := ⟨.hbm, 347, rfl⟩
abbrev main_call0_call1_v60 : Ref sig .tc := ⟨.hbm, 348, rfl⟩
abbrev main_call0_call1_v61 : Ref sig .tc := ⟨.hbm, 349, rfl⟩
abbrev main_call0_call1_c_15 : Ref sig .tc := ⟨.hbm, 350, rfl⟩
abbrev main_call0_call1_v62 : Ref sig .tc := ⟨.hbm, 351, rfl⟩
abbrev main_call0_call1_v63 : Ref sig .tc := ⟨.hbm, 352, rfl⟩
abbrev main_call0_call1_c_16 : Ref sig .tc := ⟨.hbm, 353, rfl⟩
abbrev main_call0_call1_v64 : Ref sig .tc := ⟨.hbm, 354, rfl⟩
abbrev main_call0_call1_v65 : Ref sig .tc := ⟨.hbm, 355, rfl⟩
abbrev main_call0_call1_v66 : Ref sig .tc := ⟨.hbm, 356, rfl⟩
abbrev main_call0_call1_v67 : Ref sig .tc := ⟨.hbm, 357, rfl⟩
abbrev main_call0_call1_v68 : Ref sig .tc := ⟨.hbm, 358, rfl⟩
abbrev main_call0_call1_v69 : Ref sig .tc := ⟨.hbm, 359, rfl⟩
abbrev main_call0_call1_v70 : Ref sig .tc := ⟨.hbm, 360, rfl⟩
abbrev main_call0_call1_v71 : Ref sig .tc := ⟨.hbm, 361, rfl⟩
abbrev main_call0_call1_c_17 : Ref sig .tc := ⟨.hbm, 362, rfl⟩
abbrev main_call0_call1_v72 : Ref sig .tc := ⟨.hbm, 363, rfl⟩
abbrev main_call0_call1_v73 : Ref sig .tc := ⟨.hbm, 364, rfl⟩
abbrev main_call0_call1_v74 : Ref sig .tc := ⟨.hbm, 365, rfl⟩
abbrev main_call0_call1_c_18 : Ref sig .tc := ⟨.hbm, 366, rfl⟩
abbrev main_call0_call1_v75 : Ref sig .tc := ⟨.hbm, 367, rfl⟩
abbrev main_call0_call1_v76 : Ref sig .tc := ⟨.hbm, 368, rfl⟩
abbrev main_call0_call1_c_19 : Ref sig .tc := ⟨.hbm, 369, rfl⟩
abbrev main_call0_call1_v77 : Ref sig .tc := ⟨.hbm, 370, rfl⟩
abbrev main_call0_call1_v78 : Ref sig .tc := ⟨.hbm, 371, rfl⟩
abbrev main_call0_call1_v79 : Ref sig .tc := ⟨.hbm, 372, rfl⟩
abbrev main_call0_call1_v80 : Ref sig .tc := ⟨.hbm, 373, rfl⟩
abbrev main_call0_call1_v81 : Ref sig .tc := ⟨.hbm, 374, rfl⟩
abbrev main_call0_call1_c_20 : Ref sig .tc := ⟨.hbm, 375, rfl⟩
abbrev main_call0_call1_v82 : Ref sig .tc := ⟨.hbm, 376, rfl⟩
abbrev main_call0_call1_v83 : Ref sig .tc := ⟨.hbm, 377, rfl⟩
abbrev main_call0_call1_c_21 : Ref sig .tc := ⟨.hbm, 378, rfl⟩
abbrev main_call0_call1_v84 : Ref sig .tc := ⟨.hbm, 379, rfl⟩
abbrev main_call0_call1_v85 : Ref sig .tc := ⟨.hbm, 380, rfl⟩
abbrev main_call0_call1_v86 : Ref sig .tc := ⟨.hbm, 381, rfl⟩
abbrev main_call0_call1_v87 : Ref sig .tc := ⟨.hbm, 382, rfl⟩
abbrev main_call0_call1_v88 : Ref sig .tc := ⟨.hbm, 383, rfl⟩
abbrev main_call0_call1_c_22 : Ref sig .tc := ⟨.hbm, 384, rfl⟩
abbrev main_call0_call1_v89 : Ref sig .tc := ⟨.hbm, 385, rfl⟩
abbrev main_call0_call1_v90 : Ref sig .tc := ⟨.hbm, 386, rfl⟩
abbrev main_call0_call1_c_23 : Ref sig .tc := ⟨.hbm, 387, rfl⟩
abbrev main_call0_call1_v91 : Ref sig .tc := ⟨.hbm, 388, rfl⟩
abbrev main_call0_call1_v92 : Ref sig .tc := ⟨.hbm, 389, rfl⟩
abbrev main_call0_call1_v93 : Ref sig .tc := ⟨.hbm, 390, rfl⟩
abbrev main_call0_call1_v94 : Ref sig .tc := ⟨.hbm, 391, rfl⟩
abbrev main_call0_call1_v95 : Ref sig .tc := ⟨.hbm, 392, rfl⟩
abbrev main_call0_call1_c_24 : Ref sig .tc := ⟨.hbm, 393, rfl⟩
abbrev main_call0_call1_v96 : Ref sig .tc := ⟨.hbm, 394, rfl⟩
abbrev main_call0_call1_v97 : Ref sig .tc := ⟨.hbm, 395, rfl⟩
abbrev main_call0_call1_c_25 : Ref sig .tc := ⟨.hbm, 396, rfl⟩
abbrev main_call0_call1_v98 : Ref sig .tc := ⟨.hbm, 397, rfl⟩
abbrev main_call0_call1_v99 : Ref sig .tc := ⟨.hbm, 398, rfl⟩
abbrev main_call0_call1_v100 : Ref sig .tc := ⟨.hbm, 399, rfl⟩
abbrev main_call0_call1_v101 : Ref sig .tc := ⟨.hbm, 400, rfl⟩
abbrev main_call0_call1_v102 : Ref sig .tc := ⟨.hbm, 401, rfl⟩
abbrev main_call0_call1_v103 : Ref sig .tc := ⟨.hbm, 402, rfl⟩
abbrev main_call0_call1_v104 : Ref sig .tc := ⟨.hbm, 403, rfl⟩
abbrev main_call0_call1_v105 : Ref sig .tc := ⟨.hbm, 404, rfl⟩
abbrev main_call0_call1_c_26 : Ref sig .tc := ⟨.hbm, 405, rfl⟩
abbrev main_call0_call1_v106 : Ref sig .tc := ⟨.hbm, 406, rfl⟩
abbrev main_call0_call1_v107 : Ref sig .tc := ⟨.hbm, 407, rfl⟩
abbrev main_call0_call1_v108 : Ref sig .tc := ⟨.hbm, 408, rfl⟩
abbrev main_call0_call1_c_27 : Ref sig .tc := ⟨.hbm, 409, rfl⟩
abbrev main_call0_call1_v109 : Ref sig .tc := ⟨.hbm, 410, rfl⟩
abbrev main_call0_call1_v110 : Ref sig .tc := ⟨.hbm, 411, rfl⟩
abbrev main_call0_call1_c_28 : Ref sig .tc := ⟨.hbm, 412, rfl⟩
abbrev main_call0_call1_v111 : Ref sig .tc := ⟨.hbm, 413, rfl⟩
abbrev main_call0_call1_v112 : Ref sig .tc := ⟨.hbm, 414, rfl⟩
abbrev main_call0_call1_v113 : Ref sig .tc := ⟨.hbm, 415, rfl⟩
abbrev main_call0_call1_v114 : Ref sig .tc := ⟨.hbm, 416, rfl⟩
abbrev main_call0_call1_v115 : Ref sig .tc := ⟨.hbm, 417, rfl⟩
abbrev main_call0_call1_c_29 : Ref sig .tc := ⟨.hbm, 418, rfl⟩
abbrev main_call0_call1_v116 : Ref sig .tc := ⟨.hbm, 419, rfl⟩
abbrev main_call0_call1_v117 : Ref sig .tc := ⟨.hbm, 420, rfl⟩
abbrev main_call0_call1_c_30 : Ref sig .tc := ⟨.hbm, 421, rfl⟩
abbrev main_call0_call1_v118 : Ref sig .tc := ⟨.hbm, 422, rfl⟩
abbrev main_call0_call1_v119 : Ref sig .tc := ⟨.hbm, 423, rfl⟩
abbrev main_call0_call1_v120 : Ref sig .tc := ⟨.hbm, 424, rfl⟩
abbrev main_call0_call1_v121 : Ref sig .tc := ⟨.hbm, 425, rfl⟩
abbrev main_call0_call1_v122 : Ref sig .tc := ⟨.hbm, 426, rfl⟩
abbrev main_call0_call1_c_31 : Ref sig .tc := ⟨.hbm, 427, rfl⟩
abbrev main_call0_call1_v123 : Ref sig .tc := ⟨.hbm, 428, rfl⟩
abbrev main_call0_call1_v124 : Ref sig .tc := ⟨.hbm, 429, rfl⟩
abbrev main_call0_call1_c_32 : Ref sig .tc := ⟨.hbm, 430, rfl⟩
abbrev main_call0_call1_v125 : Ref sig .tc := ⟨.hbm, 431, rfl⟩
abbrev main_call0_call1_v126 : Ref sig .tc := ⟨.hbm, 432, rfl⟩
abbrev main_call0_call1_v127 : Ref sig .tc := ⟨.hbm, 433, rfl⟩
abbrev main_call0_call1_v128 : Ref sig .tc := ⟨.hbm, 434, rfl⟩
abbrev main_call0_call1_v129 : Ref sig .tc := ⟨.hbm, 435, rfl⟩
abbrev main_call0_call1_c_33 : Ref sig .tc := ⟨.hbm, 436, rfl⟩
abbrev main_call0_call1_v130 : Ref sig .tc := ⟨.hbm, 437, rfl⟩
abbrev main_call0_call1_v131 : Ref sig .tc := ⟨.hbm, 438, rfl⟩
abbrev main_call0_call1_c_34 : Ref sig .tc := ⟨.hbm, 439, rfl⟩
abbrev main_call0_call1_v132 : Ref sig .tc := ⟨.hbm, 440, rfl⟩
abbrev main_call0_call1_v133 : Ref sig .tc := ⟨.hbm, 441, rfl⟩
abbrev main_call0_call1_v134 : Ref sig .tc := ⟨.hbm, 442, rfl⟩
abbrev main_call0_call1_v135 : Ref sig .tc := ⟨.hbm, 443, rfl⟩
abbrev main_call0_call1_v136 : Ref sig .tc := ⟨.hbm, 444, rfl⟩
abbrev main_call0_call1_v137 : Ref sig .tc := ⟨.hbm, 445, rfl⟩
abbrev main_call0_call1_v138 : Ref sig .tc := ⟨.hbm, 446, rfl⟩
abbrev main_call0_call1_v139 : Ref sig .tc := ⟨.hbm, 447, rfl⟩
abbrev main_call0_call1_c_35 : Ref sig .tc := ⟨.hbm, 448, rfl⟩
abbrev main_call0_call1_v140 : Ref sig .tc := ⟨.hbm, 449, rfl⟩
abbrev main_call0_call1_v141 : Ref sig .tc := ⟨.hbm, 450, rfl⟩
abbrev main_call0_call1_v142 : Ref sig .tc := ⟨.hbm, 451, rfl⟩
abbrev main_call0_call1_c_36 : Ref sig .tc := ⟨.hbm, 452, rfl⟩
abbrev main_call0_call1_v143 : Ref sig .tc := ⟨.hbm, 453, rfl⟩
abbrev main_call0_call1_v144 : Ref sig .tc := ⟨.hbm, 454, rfl⟩
abbrev main_call0_call1_c_37 : Ref sig .tc := ⟨.hbm, 455, rfl⟩
abbrev main_call0_call1_v145 : Ref sig .tc := ⟨.hbm, 456, rfl⟩
abbrev main_call0_call1_v146 : Ref sig .tc := ⟨.hbm, 457, rfl⟩
abbrev main_call0_call1_v147 : Ref sig .tc := ⟨.hbm, 458, rfl⟩
abbrev main_call0_call1_v148 : Ref sig .tc := ⟨.hbm, 459, rfl⟩
abbrev main_call0_call1_v149 : Ref sig .tc := ⟨.hbm, 460, rfl⟩
abbrev main_call0_call1_c_38 : Ref sig .tc := ⟨.hbm, 461, rfl⟩
abbrev main_call0_call1_v150 : Ref sig .tc := ⟨.hbm, 462, rfl⟩
abbrev main_call0_call1_v151 : Ref sig .tc := ⟨.hbm, 463, rfl⟩
abbrev main_call0_call1_c_39 : Ref sig .tc := ⟨.hbm, 464, rfl⟩
abbrev main_call0_call1_v152 : Ref sig .tc := ⟨.hbm, 465, rfl⟩
abbrev main_call0_call1_v153 : Ref sig .tc := ⟨.hbm, 466, rfl⟩
abbrev main_call0_call1_v154 : Ref sig .tc := ⟨.hbm, 467, rfl⟩
abbrev main_call0_call1_v155 : Ref sig .tc := ⟨.hbm, 468, rfl⟩
abbrev main_call0_call1_v156 : Ref sig .tc := ⟨.hbm, 469, rfl⟩
abbrev main_call0_call1_c_40 : Ref sig .tc := ⟨.hbm, 470, rfl⟩
abbrev main_call0_call1_v157 : Ref sig .tc := ⟨.hbm, 471, rfl⟩
abbrev main_call0_call1_v158 : Ref sig .tc := ⟨.hbm, 472, rfl⟩
abbrev main_call0_call1_c_41 : Ref sig .tc := ⟨.hbm, 473, rfl⟩
abbrev main_call0_call1_v159 : Ref sig .tc := ⟨.hbm, 474, rfl⟩
abbrev main_call0_call1_v160 : Ref sig .tc := ⟨.hbm, 475, rfl⟩
abbrev main_call0_call1_v161 : Ref sig .tc := ⟨.hbm, 476, rfl⟩
abbrev main_call0_call1_v162 : Ref sig .tc := ⟨.hbm, 477, rfl⟩
abbrev main_call0_call1_v163 : Ref sig .tc := ⟨.hbm, 478, rfl⟩
abbrev main_call0_call1_c_42 : Ref sig .tc := ⟨.hbm, 479, rfl⟩
abbrev main_call0_call1_v164 : Ref sig .tc := ⟨.hbm, 480, rfl⟩
abbrev main_call0_call1_v165 : Ref sig .tc := ⟨.hbm, 481, rfl⟩
abbrev main_call0_call1_c_43 : Ref sig .tc := ⟨.hbm, 482, rfl⟩
abbrev main_call0_call1_v166 : Ref sig .tc := ⟨.hbm, 483, rfl⟩
abbrev main_call0_call1_v167 : Ref sig .tc := ⟨.hbm, 484, rfl⟩
abbrev main_call0_call1_v168 : Ref sig .tc := ⟨.hbm, 485, rfl⟩
abbrev main_call0_call1_v169 : Ref sig .tc := ⟨.hbm, 486, rfl⟩
abbrev main_call0_call1_v170 : Ref sig .tc := ⟨.hbm, 487, rfl⟩
abbrev main_call0_v16_0 : Ref sig .tc := ⟨.hbm, 488, rfl⟩
abbrev main_call0_call1_v172 : Ref sig .tc := ⟨.hbm, 489, rfl⟩
abbrev main_call0_call1_v173 : Ref sig .tc := ⟨.hbm, 490, rfl⟩
abbrev main_call0_call1_c_44 : Ref sig .tc := ⟨.hbm, 491, rfl⟩
abbrev main_call0_call1_v174 : Ref sig .tc := ⟨.hbm, 492, rfl⟩
abbrev main_call0_v16_1 : Ref sig .tc := ⟨.hbm, 493, rfl⟩
abbrev main_call0_v17 : Ref sig .tc := ⟨.hbm, 494, rfl⟩
abbrev main_call0_v18_0 : Ref sig .tc := ⟨.hbm, 495, rfl⟩
abbrev main_v11 : Ref sig .tc := ⟨.hbm, 496, rfl⟩
abbrev main_c_3 : Ref sig .tc := ⟨.hbm, 497, rfl⟩
abbrev main_v12 : Ref sig .tc := ⟨.hbm, 498, rfl⟩
abbrev main_v13 : Ref sig .tc := ⟨.hbm, 499, rfl⟩
abbrev main_c_4 : Ref sig .tc := ⟨.hbm, 500, rfl⟩
abbrev main_v14 : Ref sig .tc := ⟨.hbm, 501, rfl⟩
abbrev main_v15 : Ref sig .tc := ⟨.hbm, 502, rfl⟩
abbrev main_v16 : Ref sig .tc := ⟨.hbm, 503, rfl⟩
abbrev main_v17 : Ref sig .tc := ⟨.hbm, 504, rfl⟩
abbrev main_v18 : Ref sig .tc := ⟨.hbm, 505, rfl⟩
abbrev main_v19 : Ref sig .tc := ⟨.hbm, 506, rfl⟩
abbrev main_cst_5 : Ref sig .tc := ⟨.hbm, 507, rfl⟩
abbrev main_v20 : Ref sig .tc := ⟨.hbm, 508, rfl⟩
abbrev main_call1_v0 : Ref sig .tc := ⟨.hbm, 509, rfl⟩
abbrev main_call1_v1 : Ref sig .tc := ⟨.hbm, 510, rfl⟩
abbrev main_call1_v2 : Ref sig .tc := ⟨.hbm, 511, rfl⟩
abbrev main_call1_v3 : Ref sig .tc := ⟨.hbm, 512, rfl⟩
abbrev main_call1_v4 : Ref sig .tc := ⟨.hbm, 513, rfl⟩
abbrev main_v21 : Ref sig .tc := ⟨.hbm, 514, rfl⟩
abbrev main_v22 : Ref sig .tc := ⟨.hbm, 515, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S96x512x512 : Shape := ⟨3, ![96, 512, 512]⟩
abbrev S_ : Shape := ⟨0, ![]⟩
abbrev S512 : Shape := ⟨1, ![512]⟩
abbrev S1024 : Shape := ⟨1, ![1024]⟩
abbrev S1 : Shape := ⟨1, ![1]⟩
abbrev S2 : Shape := ⟨1, ![2]⟩
abbrev S2x1 : Shape := ⟨2, ![2, 1]⟩
abbrev S2x2 : Shape := ⟨2, ![2, 2]⟩
abbrev S1x2 : Shape := ⟨2, ![1, 2]⟩
abbrev S1024x1 : Shape := ⟨2, ![1024, 1]⟩
abbrev S32x32 : Shape := ⟨2, ![32, 32]⟩
abbrev S16x16 : Shape := ⟨2, ![16, 16]⟩
abbrev S32x1x32x1 : Shape := ⟨4, ![32, 1, 32, 1]⟩
abbrev S1x16x1x16 : Shape := ⟨4, ![1, 16, 1, 16]⟩
abbrev S32x16x32x16 : Shape := ⟨4, ![32, 16, 32, 16]⟩
abbrev S512x512 : Shape := ⟨2, ![512, 512]⟩
abbrev S1x512x512 : Shape := ⟨3, ![1, 512, 512]⟩

abbrev nBuf : Space → Nat
  | .hbm => 524
  | .vmem => 0
  | .smem => 0
  | _ => 0

abbrev hbmTy0_0 (i : Nat) : BufTy := match i % 128 with
  | 0 => ⟨S96x512x512, .f32⟩
  | 1 => ⟨S_, .f32⟩
  | 2 => ⟨S512, .f32⟩
  | 3 => ⟨S_, .f32⟩
  | 4 => ⟨S512, .f32⟩
  | 5 => ⟨S1024, .f32⟩
  | 6 => ⟨S_, .i32⟩
  | 7 => ⟨S_, .i32⟩
  | 8 => ⟨S_, .i32⟩
  | 9 => ⟨S_, .i32⟩
  | 10 => ⟨S1, .i32⟩
  | 11 => ⟨S_, .i32⟩
  | 12 => ⟨S_, .i32⟩
  | 13 => ⟨S_, .i32⟩
  | 14 => ⟨S1, .i32⟩
  | 15 => ⟨S2, .i32⟩
  | 16 => ⟨S1024, .i32⟩
  | 17 => ⟨S1, .i32⟩
  | 18 => ⟨S_, .i32⟩
  | 19 => ⟨S1, .i32⟩
  | 20 => ⟨S_, .i32⟩
  | 21 => ⟨S2, .i64⟩
  | 22 => ⟨S_, .i64⟩
  | 23 => ⟨S2, .i64⟩
  | 24 => ⟨S2, .i64⟩
  | 25 => ⟨S_, .i64⟩
  | 26 => ⟨S2, .i64⟩
  | 27 => ⟨S2, .i64⟩
  | 28 => ⟨S2, .i32⟩
  | 29 => ⟨S2, .i32⟩
  | 30 => ⟨S_, .i32⟩
  | 31 => ⟨S_, .i32⟩
  | 32 => ⟨S_, .i32⟩
  | 33 => ⟨S2, .i32⟩
  | 34 => ⟨S2, .i32⟩
  | 35 => ⟨S2, .i32⟩
  | 36 => ⟨S2, .i32⟩
  | 37 => ⟨S2, .i32⟩
  | 38 => ⟨S_, .i32⟩
  | 39 => ⟨S2, .i32⟩
  | 40 => ⟨S2, .i32⟩
  | 41 => ⟨S_, .i32⟩
  | 42 => ⟨S2, .i32⟩
  | 43 => ⟨S2, .i32⟩
  | 44 => ⟨S2, .i32⟩
  | 45 => ⟨S2, .i32⟩
  | 46 => ⟨S2, .i32⟩
  | 47 => ⟨S_, .i32⟩
  | 48 => ⟨S2, .i32⟩
  | 49 => ⟨S2, .i32⟩
  | 50 => ⟨S_, .i32⟩
  | 51 => ⟨S2, .i32⟩
  | 52 => ⟨S2, .i32⟩
  | 53 => ⟨S2, .i32⟩
  | 54 => ⟨S2, .i32⟩
  | 55 => ⟨S2, .i32⟩
  | 56 => ⟨S_, .i32⟩
  | 57 => ⟨S2, .i32⟩
  | 58 => ⟨S2, .i32⟩
  | 59 => ⟨S_, .i32⟩
  | 60 => ⟨S2, .i32⟩
  | 61 => ⟨S2, .i32⟩
  | 62 => ⟨S2, .i32⟩
  | 63 => ⟨S2, .i32⟩
  | 64 => ⟨S2, .i32⟩
  | 65 => ⟨S_, .i32⟩
  | 66 => ⟨S2, .i32⟩
  | 67 => ⟨S2, .i32⟩
  | 68 => ⟨S_, .i32⟩
  | 69 => ⟨S2, .i32⟩
  | 70 => ⟨S2, .i32⟩
  | 71 => ⟨S2, .i32⟩
  | 72 => ⟨S2, .i32⟩
  | 73 => ⟨S2, .i32⟩
  | 74 => ⟨S2, .i32⟩
  | 75 => ⟨S2, .i32⟩
  | 76 => ⟨S2, .i32⟩
  | 77 => ⟨S_, .i32⟩
  | 78 => ⟨S2, .i32⟩
  | 79 => ⟨S2, .i32⟩
  | 80 => ⟨S2, .i32⟩
  | 81 => ⟨S_, .i32⟩
  | 82 => ⟨S2, .i32⟩
  | 83 => ⟨S2, .i32⟩
  | 84 => ⟨S_, .i32⟩
  | 85 => ⟨S2, .i32⟩
  | 86 => ⟨S2, .i32⟩
  | 87 => ⟨S2, .i32⟩
  | 88 => ⟨S2, .i32⟩
  | 89 => ⟨S2, .i32⟩
  | 90 => ⟨S_, .i32⟩
  | 91 => ⟨S2, .i32⟩
  | 92 => ⟨S2, .i32⟩
  | 93 => ⟨S_, .i32⟩
  | 94 => ⟨S2, .i32⟩
  | 95 => ⟨S2, .i32⟩
  | 96 => ⟨S2, .i32⟩
  | 97 => ⟨S2, .i32⟩
  | 98 => ⟨S2, .i32⟩
  | 99 => ⟨S_, .i32⟩
  | 100 => ⟨S2, .i32⟩
  | 101 => ⟨S2, .i32⟩
  | 102 => ⟨S_, .i32⟩
  | 103 => ⟨S2, .i32⟩
  | 104 => ⟨S2, .i32⟩
  | 105 => ⟨S2, .i32⟩
  | 106 => ⟨S2, .i32⟩
  | 107 => ⟨S2, .i32⟩
  | 108 => ⟨S_, .i32⟩
  | 109 => ⟨S2, .i32⟩
  | 110 => ⟨S2, .i32⟩
  | 111 => ⟨S_, .i32⟩
  | 112 => ⟨S2, .i32⟩
  | 113 => ⟨S2, .i32⟩
  | 114 => ⟨S2, .i32⟩
  | 115 => ⟨S2, .i32⟩
  | 116 => ⟨S2, .i32⟩
  | 117 => ⟨S2, .i32⟩
  | 118 => ⟨S2, .i32⟩
  | 119 => ⟨S2, .i32⟩
  | 120 => ⟨S_, .i32⟩
  | 121 => ⟨S2, .i32⟩
  | 122 => ⟨S2, .i32⟩
  | 123 => ⟨S2, .i32⟩
  | 124 => ⟨S_, .i32⟩
  | 125 => ⟨S2, .i32⟩
  | 126 => ⟨S2, .i32⟩
  | 127 => ⟨S_, .i32⟩
  | _ => ⟨S96x512x512, .f32⟩

abbrev hbmTy0_1 (i : Nat) : BufTy := match i % 128 with
  | 0 => ⟨S2, .i32⟩
  | 1 => ⟨S2, .i32⟩
  | 2 => ⟨S2, .i32⟩
  | 3 => ⟨S2, .i32⟩
  | 4 => ⟨S2, .i32⟩
  | 5 => ⟨S_, .i32⟩
  | 6 => ⟨S2, .i32⟩
  | 7 => ⟨S2, .i32⟩
  | 8 => ⟨S_, .i32⟩
  | 9 => ⟨S2, .i32⟩
  | 10 => ⟨S2, .i32⟩
  | 11 => ⟨S2, .i32⟩
  | 12 => ⟨S2, .i32⟩
  | 13 => ⟨S2, .i32⟩
  | 14 => ⟨S_, .i32⟩
  | 15 => ⟨S2, .i32⟩
  | 16 => ⟨S2, .i32⟩
  | 17 => ⟨S_, .i32⟩
  | 18 => ⟨S2, .i32⟩
  | 19 => ⟨S2, .i32⟩
  | 20 => ⟨S2, .i32⟩
  | 21 => ⟨S2, .i32⟩
  | 22 => ⟨S2, .i32⟩
  | 23 => ⟨S_, .i32⟩
  | 24 => ⟨S2, .i32⟩
  | 25 => ⟨S2, .i32⟩
  | 26 => ⟨S_, .i32⟩
  | 27 => ⟨S2, .i32⟩
  | 28 => ⟨S2, .i32⟩
  | 29 => ⟨S2, .i32⟩
  | 30 => ⟨S2, .i32⟩
  | 31 => ⟨S2, .i32⟩
  | 32 => ⟨S2, .i32⟩
  | 33 => ⟨S2, .i32⟩
  | 34 => ⟨S2, .i32⟩
  | 35 => ⟨S_, .i32⟩
  | 36 => ⟨S2, .i32⟩
  | 37 => ⟨S2, .i32⟩
  | 38 => ⟨S2, .i32⟩
  | 39 => ⟨S_, .i32⟩
  | 40 => ⟨S2, .i32⟩
  | 41 => ⟨S2, .i32⟩
  | 42 => ⟨S_, .i32⟩
  | 43 => ⟨S2, .i32⟩
  | 44 => ⟨S2, .i32⟩
  | 45 => ⟨S2, .i32⟩
  | 46 => ⟨S2, .i32⟩
  | 47 => ⟨S2, .i32⟩
  | 48 => ⟨S_, .i32⟩
  | 49 => ⟨S2, .i32⟩
  | 50 => ⟨S2, .i32⟩
  | 51 => ⟨S_, .i32⟩
  | 52 => ⟨S2, .i32⟩
  | 53 => ⟨S2, .i32⟩
  | 54 => ⟨S2, .i32⟩
  | 55 => ⟨S2, .i32⟩
  | 56 => ⟨S2, .i32⟩
  | 57 => ⟨S_, .i32⟩
  | 58 => ⟨S2, .i32⟩
  | 59 => ⟨S2, .i32⟩
  | 60 => ⟨S_, .i32⟩
  | 61 => ⟨S2, .i32⟩
  | 62 => ⟨S2, .i32⟩
  | 63 => ⟨S2, .i32⟩
  | 64 => ⟨S2, .i32⟩
  | 65 => ⟨S2, .i32⟩
  | 66 => ⟨S_, .i32⟩
  | 67 => ⟨S2, .i32⟩
  | 68 => ⟨S2, .i32⟩
  | 69 => ⟨S_, .i32⟩
  | 70 => ⟨S2, .i32⟩
  | 71 => ⟨S2, .i32⟩
  | 72 => ⟨S2, .i32⟩
  | 73 => ⟨S2, .i32⟩
  | 74 => ⟨S2, .i32⟩
  | 75 => ⟨S2, .i32⟩
  | 76 => ⟨S2, .i32⟩
  | 77 => ⟨S2, .i32⟩
  | 78 => ⟨S_, .i32⟩
  | 79 => ⟨S2, .i32⟩
  | 80 => ⟨S2, .i32⟩
  | 81 => ⟨S2, .i32⟩
  | 82 => ⟨S_, .i32⟩
  | 83 => ⟨S2, .i32⟩
  | 84 => ⟨S2, .i32⟩
  | 85 => ⟨S_, .i32⟩
  | 86 => ⟨S2, .i32⟩
  | 87 => ⟨S2, .i32⟩
  | 88 => ⟨S2, .i32⟩
  | 89 => ⟨S2, .i32⟩
  | 90 => ⟨S2, .i32⟩
  | 91 => ⟨S_, .i32⟩
  | 92 => ⟨S2, .i32⟩
  | 93 => ⟨S2, .i32⟩
  | 94 => ⟨S_, .i32⟩
  | 95 => ⟨S2, .i32⟩
  | 96 => ⟨S2, .i32⟩
  | 97 => ⟨S2, .i32⟩
  | 98 => ⟨S2, .i32⟩
  | 99 => ⟨S2, .i32⟩
  | 100 => ⟨S_, .i32⟩
  | 101 => ⟨S2, .i32⟩
  | 102 => ⟨S2, .i32⟩
  | 103 => ⟨S_, .i32⟩
  | 104 => ⟨S2, .i32⟩
  | 105 => ⟨S2, .i32⟩
  | 106 => ⟨S2, .i32⟩
  | 107 => ⟨S2, .i32⟩
  | 108 => ⟨S2, .i32⟩
  | 109 => ⟨S_, .i32⟩
  | 110 => ⟨S2, .i32⟩
  | 111 => ⟨S2, .i32⟩
  | 112 => ⟨S_, .i32⟩
  | 113 => ⟨S2, .i32⟩
  | 114 => ⟨S2, .i32⟩
  | 115 => ⟨S2, .i32⟩
  | 116 => ⟨S2, .i32⟩
  | 117 => ⟨S2, .i32⟩
  | 118 => ⟨S2, .i32⟩
  | 119 => ⟨S2, .i32⟩
  | 120 => ⟨S2, .i32⟩
  | 121 => ⟨S_, .i32⟩
  | 122 => ⟨S2, .i32⟩
  | 123 => ⟨S2, .i32⟩
  | 124 => ⟨S2x1, .i32⟩
  | 125 => ⟨S2x1, .i32⟩
  | 126 => ⟨S2x2, .i32⟩
  | 127 => ⟨S1x2, .i32⟩
  | _ => ⟨S96x512x512, .f32⟩

abbrev hbmTy0_2 (i : Nat) : BufTy := match i % 128 with
  | 0 => ⟨S2, .i32⟩
  | 1 => ⟨S1x2, .i32⟩
  | 2 => ⟨S2, .i32⟩
  | 3 => ⟨S1, .i32⟩
  | 4 => ⟨S_, .i32⟩
  | 5 => ⟨S1, .i32⟩
  | 6 => ⟨S_, .i32⟩
  | 7 => ⟨S1024, .i64⟩
  | 8 => ⟨S_, .i64⟩
  | 9 => ⟨S1024, .i64⟩
  | 10 => ⟨S1024, .i64⟩
  | 11 => ⟨S_, .i64⟩
  | 12 => ⟨S1024, .i64⟩
  | 13 => ⟨S1024, .i64⟩
  | 14 => ⟨S1024, .i32⟩
  | 15 => ⟨S1024, .i32⟩
  | 16 => ⟨S_, .i32⟩
  | 17 => ⟨S_, .i32⟩
  | 18 => ⟨S_, .i32⟩
  | 19 => ⟨S1024, .i32⟩
  | 20 => ⟨S1024, .i32⟩
  | 21 => ⟨S1024, .i32⟩
  | 22 => ⟨S1024, .i32⟩
  | 23 => ⟨S1024, .i32⟩
  | 24 => ⟨S_, .i32⟩
  | 25 => ⟨S1024, .i32⟩
  | 26 => ⟨S1024, .i32⟩
  | 27 => ⟨S_, .i32⟩
  | 28 => ⟨S1024, .i32⟩
  | 29 => ⟨S1024, .i32⟩
  | 30 => ⟨S1024, .i32⟩
  | 31 => ⟨S1024, .i32⟩
  | 32 => ⟨S1024, .i32⟩
  | 33 => ⟨S_, .i32⟩
  | 34 => ⟨S1024, .i32⟩
  | 35 => ⟨S1024, .i32⟩
  | 36 => ⟨S_, .i32⟩
  | 37 => ⟨S1024, .i32⟩
  | 38 => ⟨S1024, .i32⟩
  | 39 => ⟨S1024, .i32⟩
  | 40 => ⟨S1024, .i32⟩
  | 41 => ⟨S1024, .i32⟩
  | 42 => ⟨S_, .i32⟩
  | 43 => ⟨S1024, .i32⟩
  | 44 => ⟨S1024, .i32⟩
  | 45 => ⟨S_, .i32⟩
  | 46 => ⟨S1024, .i32⟩
  | 47 => ⟨S1024, .i32⟩
  | 48 => ⟨S1024, .i32⟩
  | 49 => ⟨S1024, .i32⟩
  | 50 => ⟨S1024, .i32⟩
  | 51 => ⟨S_, .i32⟩
  | 52 => ⟨S1024, .i32⟩
  | 53 => ⟨S1024, .i32⟩
  | 54 => ⟨S_, .i32⟩
  | 55 => ⟨S1024, .i32⟩
  | 56 => ⟨S1024, .i32⟩
  | 57 => ⟨S1024, .i32⟩
  | 58 => ⟨S1024, .i32⟩
  | 59 => ⟨S1024, .i32⟩
  | 60 => ⟨S1024, .i32⟩
  | 61 => ⟨S1024, .i32⟩
  | 62 => ⟨S1024, .i32⟩
  | 63 => ⟨S_, .i32⟩
  | 64 => ⟨S1024, .i32⟩
  | 65 => ⟨S1024, .i32⟩
  | 66 => ⟨S1024, .i32⟩
  | 67 => ⟨S_, .i32⟩
  | 68 => ⟨S1024, .i32⟩
  | 69 => ⟨S1024, .i32⟩
  | 70 => ⟨S_, .i32⟩
  | 71 => ⟨S1024, .i32⟩
  | 72 => ⟨S1024, .i32⟩
  | 73 => ⟨S1024, .i32⟩
  | 74 => ⟨S1024, .i32⟩
  | 75 => ⟨S1024, .i32⟩
  | 76 => ⟨S_, .i32⟩
  | 77 => ⟨S1024, .i32⟩
  | 78 => ⟨S1024, .i32⟩
  | 79 => ⟨S_, .i32⟩
  | 80 => ⟨S1024, .i32⟩
  | 81 => ⟨S1024, .i32⟩
  | 82 => ⟨S1024, .i32⟩
  | 83 => ⟨S1024, .i32⟩
  | 84 => ⟨S1024, .i32⟩
  | 85 => ⟨S_, .i32⟩
  | 86 => ⟨S1024, .i32⟩
  | 87 => ⟨S1024, .i32⟩
  | 88 => ⟨S_, .i32⟩
  | 89 => ⟨S1024, .i32⟩
  | 90 => ⟨S1024, .i32⟩
  | 91 => ⟨S1024, .i32⟩
  | 92 => ⟨S1024, .i32⟩
  | 93 => ⟨S1024, .i32⟩
  | 94 => ⟨S_, .i32⟩
  | 95 => ⟨S1024, .i32⟩
  | 96 => ⟨S1024, .i32⟩
  | 97 => ⟨S_, .i32⟩
  | 98 => ⟨S1024, .i32⟩
  | 99 => ⟨S1024, .i32⟩
  | 100 => ⟨S1024, .i32⟩
  | 101 => ⟨S1024, .i32⟩
  | 102 => ⟨S1024, .i32⟩
  | 103 => ⟨S1024, .i32⟩
  | 104 => ⟨S1024, .i32⟩
  | 105 => ⟨S1024, .i32⟩
  | 106 => ⟨S_, .i32⟩
  | 107 => ⟨S1024, .i32⟩
  | 108 => ⟨S1024, .i32⟩
  | 109 => ⟨S1024, .i32⟩
  | 110 => ⟨S_, .i32⟩
  | 111 => ⟨S1024, .i32⟩
  | 112 => ⟨S1024, .i32⟩
  | 113 => ⟨S_, .i32⟩
  | 114 => ⟨S1024, .i32⟩
  | 115 => ⟨S1024, .i32⟩
  | 116 => ⟨S1024, .i32⟩
  | 117 => ⟨S1024, .i32⟩
  | 118 => ⟨S1024, .i32⟩
  | 119 => ⟨S_, .i32⟩
  | 120 => ⟨S1024, .i32⟩
  | 121 => ⟨S1024, .i32⟩
  | 122 => ⟨S_, .i32⟩
  | 123 => ⟨S1024, .i32⟩
  | 124 => ⟨S1024, .i32⟩
  | 125 => ⟨S1024, .i32⟩
  | 126 => ⟨S1024, .i32⟩
  | 127 => ⟨S1024, .i32⟩
  | _ => ⟨S96x512x512, .f32⟩

abbrev hbmTy0_3 (i : Nat) : BufTy := match i % 128 with
  | 0 => ⟨S_, .i32⟩
  | 1 => ⟨S1024, .i32⟩
  | 2 => ⟨S1024, .i32⟩
  | 3 => ⟨S_, .i32⟩
  | 4 => ⟨S1024, .i32⟩
  | 5 => ⟨S1024, .i32⟩
  | 6 => ⟨S1024, .i32⟩
  | 7 => ⟨S1024, .i32⟩
  | 8 => ⟨S1024, .i32⟩
  | 9 => ⟨S_, .i32⟩
  | 10 => ⟨S1024, .i32⟩
  | 11 => ⟨S1024, .i32⟩
  | 12 => ⟨S_, .i32⟩
  | 13 => ⟨S1024, .i32⟩
  | 14 => ⟨S1024, .i32⟩
  | 15 => ⟨S1024, .i32⟩
  | 16 => ⟨S1024, .i32⟩
  | 17 => ⟨S1024, .i32⟩
  | 18 => ⟨S1024, .i32⟩
  | 19 => ⟨S1024, .i32⟩
  | 20 => ⟨S1024, .i32⟩
  | 21 => ⟨S_, .i32⟩
  | 22 => ⟨S1024, .i32⟩
  | 23 => ⟨S1024, .i32⟩
  | 24 => ⟨S1024, .i32⟩
  | 25 => ⟨S_, .i32⟩
  | 26 => ⟨S1024, .i32⟩
  | 27 => ⟨S1024, .i32⟩
  | 28 => ⟨S_, .i32⟩
  | 29 => ⟨S1024, .i32⟩
  | 30 => ⟨S1024, .i32⟩
  | 31 => ⟨S1024, .i32⟩
  | 32 => ⟨S1024, .i32⟩
  | 33 => ⟨S1024, .i32⟩
  | 34 => ⟨S_, .i32⟩
  | 35 => ⟨S1024, .i32⟩
  | 36 => ⟨S1024, .i32⟩
  | 37 => ⟨S_, .i32⟩
  | 38 => ⟨S1024, .i32⟩
  | 39 => ⟨S1024, .i32⟩
  | 40 => ⟨S1024, .i32⟩
  | 41 => ⟨S1024, .i32⟩
  | 42 => ⟨S1024, .i32⟩
  | 43 => ⟨S_, .i32⟩
  | 44 => ⟨S1024, .i32⟩
  | 45 => ⟨S1024, .i32⟩
  | 46 => ⟨S_, .i32⟩
  | 47 => ⟨S1024, .i32⟩
  | 48 => ⟨S1024, .i32⟩
  | 49 => ⟨S1024, .i32⟩
  | 50 => ⟨S1024, .i32⟩
  | 51 => ⟨S1024, .i32⟩
  | 52 => ⟨S_, .i32⟩
  | 53 => ⟨S1024, .i32⟩
  | 54 => ⟨S1024, .i32⟩
  | 55 => ⟨S_, .i32⟩
  | 56 => ⟨S1024, .i32⟩
  | 57 => ⟨S1024, .i32⟩
  | 58 => ⟨S1024, .i32⟩
  | 59 => ⟨S1024, .i32⟩
  | 60 => ⟨S1024, .i32⟩
  | 61 => ⟨S1024, .i32⟩
  | 62 => ⟨S1024, .i32⟩
  | 63 => ⟨S1024, .i32⟩
  | 64 => ⟨S_, .i32⟩
  | 65 => ⟨S1024, .i32⟩
  | 66 => ⟨S1024, .i32⟩
  | 67 => ⟨S1024, .i32⟩
  | 68 => ⟨S_, .i32⟩
  | 69 => ⟨S1024, .i32⟩
  | 70 => ⟨S1024, .i32⟩
  | 71 => ⟨S_, .i32⟩
  | 72 => ⟨S1024, .i32⟩
  | 73 => ⟨S1024, .i32⟩
  | 74 => ⟨S1024, .i32⟩
  | 75 => ⟨S1024, .i32⟩
  | 76 => ⟨S1024, .i32⟩
  | 77 => ⟨S_, .i32⟩
  | 78 => ⟨S1024, .i32⟩
  | 79 => ⟨S1024, .i32⟩
  | 80 => ⟨S_, .i32⟩
  | 81 => ⟨S1024, .i32⟩
  | 82 => ⟨S1024, .i32⟩
  | 83 => ⟨S1024, .i32⟩
  | 84 => ⟨S1024, .i32⟩
  | 85 => ⟨S1024, .i32⟩
  | 86 => ⟨S_, .i32⟩
  | 87 => ⟨S1024, .i32⟩
  | 88 => ⟨S1024, .i32⟩
  | 89 => ⟨S_, .i32⟩
  | 90 => ⟨S1024, .i32⟩
  | 91 => ⟨S1024, .i32⟩
  | 92 => ⟨S1024, .i32⟩
  | 93 => ⟨S1024, .i32⟩
  | 94 => ⟨S1024, .i32⟩
  | 95 => ⟨S_, .i32⟩
  | 96 => ⟨S1024, .i32⟩
  | 97 => ⟨S1024, .i32⟩
  | 98 => ⟨S_, .i32⟩
  | 99 => ⟨S1024, .i32⟩
  | 100 => ⟨S1024, .i32⟩
  | 101 => ⟨S1024, .i32⟩
  | 102 => ⟨S1024, .i32⟩
  | 103 => ⟨S1024, .i32⟩
  | 104 => ⟨S1024, .i32⟩
  | 105 => ⟨S1024, .i32⟩
  | 106 => ⟨S1024, .i32⟩
  | 107 => ⟨S_, .i32⟩
  | 108 => ⟨S1024, .i32⟩
  | 109 => ⟨S1024, .i32⟩
  | 110 => ⟨S1024, .i32⟩
  | 111 => ⟨S1024, .i32⟩
  | 112 => ⟨S1024, .i32⟩
  | 113 => ⟨S_, .i32⟩
  | 114 => ⟨S1024, .i32⟩
  | 115 => ⟨S1024, .i1⟩
  | 116 => ⟨S_, .i32⟩
  | 117 => ⟨S1024, .i32⟩
  | 118 => ⟨S1024, .i32⟩
  | 119 => ⟨S1024, .i32⟩
  | 120 => ⟨S1024x1, .i32⟩
  | 121 => ⟨S1024, .f32⟩
  | 122 => ⟨S32x32, .f32⟩
  | 123 => ⟨S_, .f32⟩
  | 124 => ⟨S16x16, .f32⟩
  | 125 => ⟨S32x1x32x1, .f32⟩
  | 126 => ⟨S1x16x1x16, .f32⟩
  | 127 => ⟨S32x16x32x16, .f32⟩
  | _ => ⟨S96x512x512, .f32⟩

abbrev hbmTy0_4 (i : Nat) : BufTy := match i % 128 with
  | 0 => ⟨S32x16x32x16, .f32⟩
  | 1 => ⟨S32x16x32x16, .f32⟩
  | 2 => ⟨S512x512, .f32⟩
  | 3 => ⟨S1x512x512, .f32⟩
  | 4 => ⟨S96x512x512, .f32⟩
  | 5 => ⟨S_, .f32⟩
  | 6 => ⟨S96x512x512, .f32⟩
  | 7 => ⟨S96x512x512, .i1⟩
  | 8 => ⟨S96x512x512, .i1⟩
  | 9 => ⟨S_, .f32⟩
  | 10 => ⟨S96x512x512, .f32⟩
  | 11 => ⟨S96x512x512, .f32⟩
  | _ => ⟨S96x512x512, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S96x512x512, .f32⟩

abbrev bufTy : (tb : Table) → Fin (tcTables nBuf tb) → BufTy
  | .hbm, ⟨i, _⟩ => hbmTy i
  | _, _ => ⟨S96x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_c_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_call0_call0_v0 : Ref sig .tc := ⟨.hbm, 17, rfl⟩
abbrev main_call0_call0_v1 : Ref sig .tc := ⟨.hbm, 18, rfl⟩
abbrev main_call0_call0_v2 : Ref sig .tc := ⟨.hbm, 19, rfl⟩
abbrev main_call0_call0_v3 : Ref sig .tc := ⟨.hbm, 20, rfl⟩
abbrev main_call0_call0_v4 : Ref sig .tc := ⟨.hbm, 21, rfl⟩
abbrev main_call0_call0_c : Ref sig .tc := ⟨.hbm, 22, rfl⟩
abbrev main_call0_call0_v5 : Ref sig .tc := ⟨.hbm, 23, rfl⟩
abbrev main_call0_call0_v6 : Ref sig .tc := ⟨.hbm, 24, rfl⟩
abbrev main_call0_call0_c_0 : Ref sig .tc := ⟨.hbm, 25, rfl⟩
abbrev main_call0_call0_v7 : Ref sig .tc := ⟨.hbm, 26, rfl⟩
abbrev main_call0_call0_v8 : Ref sig .tc := ⟨.hbm, 27, rfl⟩
abbrev main_call0_call0_v9 : Ref sig .tc := ⟨.hbm, 28, rfl⟩
abbrev main_call0_call0_v10 : Ref sig .tc := ⟨.hbm, 29, rfl⟩
abbrev main_call0_call0_call0_v0 : Ref sig .tc := ⟨.hbm, 30, rfl⟩
abbrev main_call0_call0_call0_c : Ref sig .tc := ⟨.hbm, 31, rfl⟩
abbrev main_call0_call0_call0_v1 : Ref sig .tc := ⟨.hbm, 32, rfl⟩
abbrev main_call0_call0_call0_v2 : Ref sig .tc := ⟨.hbm, 33, rfl⟩
abbrev main_call0_call0_call0_v3 : Ref sig .tc := ⟨.hbm, 34, rfl⟩
abbrev main_call0_call0_call0_v4 : Ref sig .tc := ⟨.hbm, 35, rfl⟩
abbrev main_call0_call0_call0_v5 : Ref sig .tc := ⟨.hbm, 36, rfl⟩
abbrev main_call0_call0_call0_v6 : Ref sig .tc := ⟨.hbm, 37, rfl⟩
abbrev main_call0_call0_call0_c_0 : Ref sig .tc := ⟨.hbm, 38, rfl⟩
abbrev main_call0_call0_call0_v7 : Ref sig .tc := ⟨.hbm, 39, rfl⟩
abbrev main_call0_call0_call0_v8 : Ref sig .tc := ⟨.hbm, 40, rfl⟩
abbrev main_call0_call0_call0_c_1 : Ref sig .tc := ⟨.hbm, 41, rfl⟩
abbrev main_call0_call0_call0_v9 : Ref sig .tc := ⟨.hbm, 42, rfl⟩
abbrev main_call0_call0_call0_v10 : Ref sig .tc := ⟨.hbm, 43, rfl⟩
abbrev main_call0_call0_call0_v11 : Ref sig .tc := ⟨.hbm, 44, rfl⟩
abbrev main_call0_call0_call0_v12 : Ref sig .tc := ⟨.hbm, 45, rfl⟩
abbrev main_call0_call0_call0_v13 : Ref sig .tc := ⟨.hbm, 46, rfl⟩
abbrev main_call0_call0_call0_c_2 : Ref sig .tc := ⟨.hbm, 47, rfl⟩
abbrev main_call0_call0_call0_v14 : Ref sig .tc := ⟨.hbm, 48, rfl⟩
abbrev main_call0_call0_call0_v15 : Ref sig .tc := ⟨.hbm, 49, rfl⟩
abbrev main_call0_call0_call0_c_3 : Ref sig .tc := ⟨.hbm, 50, rfl⟩
abbrev main_call0_call0_call0_v16 : Ref sig .tc := ⟨.hbm, 51, rfl⟩
abbrev main_call0_call0_call0_v17 : Ref sig .tc := ⟨.hbm, 52, rfl⟩
abbrev main_call0_call0_call0_v18 : Ref sig .tc := ⟨.hbm, 53, rfl⟩
abbrev main_call0_call0_call0_v19 : Ref sig .tc := ⟨.hbm, 54, rfl⟩
abbrev main_call0_call0_call0_v20 : Ref sig .tc := ⟨.hbm, 55, rfl⟩
abbrev main_call0_call0_call0_c_4 : Ref sig .tc := ⟨.hbm, 56, rfl⟩
abbrev main_call0_call0_call0_v21 : Ref sig .tc := ⟨.hbm, 57, rfl⟩
abbrev main_call0_call0_call0_v22 : Ref sig .tc := ⟨.hbm, 58, rfl⟩
abbrev main_call0_call0_call0_c_5 : Ref sig .tc := ⟨.hbm, 59, rfl⟩
abbrev main_call0_call0_call0_v23 : Ref sig .tc := ⟨.hbm, 60, rfl⟩
abbrev main_call0_call0_call0_v24 : Ref sig .tc := ⟨.hbm, 61, rfl⟩
abbrev main_call0_call0_call0_v25 : Ref sig .tc := ⟨.hbm, 62, rfl⟩
abbrev main_call0_call0_call0_v26 : Ref sig .tc := ⟨.hbm, 63, rfl⟩
abbrev main_call0_call0_call0_v27 : Ref sig .tc := ⟨.hbm, 64, rfl⟩
abbrev main_call0_call0_call0_c_6 : Ref sig .tc := ⟨.hbm, 65, rfl⟩
abbrev main_call0_call0_call0_v28 : Ref sig .tc := ⟨.hbm, 66, rfl⟩
abbrev main_call0_call0_call0_v29 : Ref sig .tc := ⟨.hbm, 67, rfl⟩
abbrev main_call0_call0_call0_c_7 : Ref sig .tc := ⟨.hbm, 68, rfl⟩
abbrev main_call0_call0_call0_v30 : Ref sig .tc := ⟨.hbm, 69, rfl⟩
abbrev main_call0_call0_call0_v31 : Ref sig .tc := ⟨.hbm, 70, rfl⟩
abbrev main_call0_call0_call0_v32 : Ref sig .tc := ⟨.hbm, 71, rfl⟩
abbrev main_call0_call0_call0_v33 : Ref sig .tc := ⟨.hbm, 72, rfl⟩
abbrev main_call0_call0_call0_v34 : Ref sig .tc := ⟨.hbm, 73, rfl⟩
abbrev main_call0_call0_call0_v35 : Ref sig .tc := ⟨.hbm, 74, rfl⟩
abbrev main_call0_call0_call0_v36 : Ref sig .tc := ⟨.hbm, 75, rfl⟩
abbrev main_call0_call0_call0_v37 : Ref sig .tc := ⟨.hbm, 76, rfl⟩
abbrev main_call0_call0_call0_c_8 : Ref sig .tc := ⟨.hbm, 77, rfl⟩
abbrev main_call0_call0_call0_v38 : Ref sig .tc := ⟨.hbm, 78, rfl⟩
abbrev main_call0_call0_call0_v39 : Ref sig .tc := ⟨.hbm, 79, rfl⟩
abbrev main_call0_call0_call0_v40 : Ref sig .tc := ⟨.hbm, 80, rfl⟩
abbrev main_call0_call0_call0_c_9 : Ref sig .tc := ⟨.hbm, 81, rfl⟩
abbrev main_call0_call0_call0_v41 : Ref sig .tc := ⟨.hbm, 82, rfl⟩
abbrev main_call0_call0_call0_v42 : Ref sig .tc := ⟨.hbm, 83, rfl⟩
abbrev main_call0_call0_call0_c_10 : Ref sig .tc := ⟨.hbm, 84, rfl⟩
abbrev main_call0_call0_call0_v43 : Ref sig .tc := ⟨.hbm, 85, rfl⟩
abbrev main_call0_call0_call0_v44 : Ref sig .tc := ⟨.hbm, 86, rfl⟩
abbrev main_call0_call0_call0_v45 : Ref sig .tc := ⟨.hbm, 87, rfl⟩
abbrev main_call0_call0_call0_v46 : Ref sig .tc := ⟨.hbm, 88, rfl⟩
abbrev main_call0_call0_call0_v47 : Ref sig .tc := ⟨.hbm, 89, rfl⟩
abbrev main_call0_call0_call0_c_11 : Ref sig .tc := ⟨.hbm, 90, rfl⟩
abbrev main_call0_call0_call0_v48 : Ref sig .tc := ⟨.hbm, 91, rfl⟩
abbrev main_call0_call0_call0_v49 : Ref sig .tc := ⟨.hbm, 92, rfl⟩
abbrev main_call0_call0_call0_c_12 : Ref sig .tc := ⟨.hbm, 93, rfl⟩
abbrev main_call0_call0_call0_v50 : Ref sig .tc := ⟨.hbm, 94, rfl⟩
abbrev main_call0_call0_call0_v51 : Ref sig .tc := ⟨.hbm, 95, rfl⟩
abbrev main_call0_call0_call0_v52 : Ref sig .tc := ⟨.hbm, 96, rfl⟩
abbrev main_call0_call0_call0_v53 : Ref sig .tc := ⟨.hbm, 97, rfl⟩
abbrev main_call0_call0_call0_v54 : Ref sig .tc := ⟨.hbm, 98, rfl⟩
abbrev main_call0_call0_call0_c_13 : Ref sig .tc := ⟨.hbm, 99, rfl⟩
abbrev main_call0_call0_call0_v55 : Ref sig .tc := ⟨.hbm, 100, rfl⟩
abbrev main_call0_call0_call0_v56 : Ref sig .tc := ⟨.hbm, 101, rfl⟩
abbrev main_call0_call0_call0_c_14 : Ref sig .tc := ⟨.hbm, 102, rfl⟩
abbrev main_call0_call0_call0_v57 : Ref sig .tc := ⟨.hbm, 103, rfl⟩
abbrev main_call0_call0_call0_v58 : Ref sig .tc := ⟨.hbm, 104, rfl⟩
abbrev main_call0_call0_call0_v59 : Ref sig .tc := ⟨.hbm, 105, rfl⟩
abbrev main_call0_call0_call0_v60 : Ref sig .tc := ⟨.hbm, 106, rfl⟩
abbrev main_call0_call0_call0_v61 : Ref sig .tc := ⟨.hbm, 107, rfl⟩
abbrev main_call0_call0_call0_c_15 : Ref sig .tc := ⟨.hbm, 108, rfl⟩
abbrev main_call0_call0_call0_v62 : Ref sig .tc := ⟨.hbm, 109, rfl⟩
abbrev main_call0_call0_call0_v63 : Ref sig .tc := ⟨.hbm, 110, rfl⟩
abbrev main_call0_call0_call0_c_16 : Ref sig .tc := ⟨.hbm, 111, rfl⟩
abbrev main_call0_call0_call0_v64 : Ref sig .tc := ⟨.hbm, 112, rfl⟩
abbrev main_call0_call0_call0_v65 : Ref sig .tc := ⟨.hbm, 113, rfl⟩
abbrev main_call0_call0_call0_v66 : Ref sig .tc := ⟨.hbm, 114, rfl⟩
abbrev main_call0_call0_call0_v67 : Ref sig .tc := ⟨.hbm, 115, rfl⟩
abbrev main_call0_call0_call0_v68 : Ref sig .tc := ⟨.hbm, 116, rfl⟩
abbrev main_call0_call0_call0_v69 : Ref sig .tc := ⟨.hbm, 117, rfl⟩
abbrev main_call0_call0_call0_v70 : Ref sig .tc := ⟨.hbm, 118, rfl⟩
abbrev main_call0_call0_call0_v71 : Ref sig .tc := ⟨.hbm, 119, rfl⟩
abbrev main_call0_call0_call0_c_17 : Ref sig .tc := ⟨.hbm, 120, rfl⟩
abbrev main_call0_call0_call0_v72 : Ref sig .tc := ⟨.hbm, 121, rfl⟩
abbrev main_call0_call0_call0_v73 : Ref sig .tc := ⟨.hbm, 122, rfl⟩
abbrev main_call0_call0_call0_v74 : Ref sig .tc := ⟨.hbm, 123, rfl⟩
abbrev main_call0_call0_call0_c_18 : Ref sig .tc := ⟨.hbm, 124, rfl⟩
abbrev main_call0_call0_call0_v75 : Ref sig .tc := ⟨.hbm, 125, rfl⟩
abbrev main_call0_call0_call0_v76 : Ref sig .tc := ⟨.hbm, 126, rfl⟩
abbrev main_call0_call0_call0_c_19 : Ref sig .tc := ⟨.hbm, 127, rfl⟩
abbrev main_call0_call0_call0_v77 : Ref sig .tc := ⟨.hbm, 128, rfl⟩
abbrev main_call0_call0_call0_v78 : Ref sig .tc := ⟨.hbm, 129, rfl⟩
abbrev main_call0_call0_call0_v79 : Ref sig .tc := ⟨.hbm, 130, rfl⟩
abbrev main_call0_call0_call0_v80 : Ref sig .tc := ⟨.hbm, 131, rfl⟩
abbrev main_call0_call0_call0_v81 : Ref sig .tc := ⟨.hbm, 132, rfl⟩
abbrev main_call0_call0_call0_c_20 : Ref sig .tc := ⟨.hbm, 133, rfl⟩
abbrev main_call0_call0_call0_v82 : Ref sig .tc := ⟨.hbm, 134, rfl⟩
abbrev main_call0_call0_call0_v83 : Ref sig .tc := ⟨.hbm, 135, rfl⟩
abbrev main_call0_call0_call0_c_21 : Ref sig .tc := ⟨.hbm, 136, rfl⟩
abbrev main_call0_call0_call0_v84 : Ref sig .tc := ⟨.hbm, 137, rfl⟩
abbrev main_call0_call0_call0_v85 : Ref sig .tc := ⟨.hbm, 138, rfl⟩
abbrev main_call0_call0_call0_v86 : Ref sig .tc := ⟨.hbm, 139, rfl⟩
abbrev main_call0_call0_call0_v87 : Ref sig .tc := ⟨.hbm, 140, rfl⟩
abbrev main_call0_call0_call0_v88 : Ref sig .tc := ⟨.hbm, 141, rfl⟩
abbrev main_call0_call0_call0_c_22 : Ref sig .tc := ⟨.hbm, 142, rfl⟩
abbrev main_call0_call0_call0_v89 : Ref sig .tc := ⟨.hbm, 143, rfl⟩
abbrev main_call0_call0_call0_v90 : Ref sig .tc := ⟨.hbm, 144, rfl⟩
abbrev main_call0_call0_call0_c_23 : Ref sig .tc := ⟨.hbm, 145, rfl⟩
abbrev main_call0_call0_call0_v91 : Ref sig .tc := ⟨.hbm, 146, rfl⟩
abbrev main_call0_call0_call0_v92 : Ref sig .tc := ⟨.hbm, 147, rfl⟩
abbrev main_call0_call0_call0_v93 : Ref sig .tc := ⟨.hbm, 148, rfl⟩
abbrev main_call0_call0_call0_v94 : Ref sig .tc := ⟨.hbm, 149, rfl⟩
abbrev main_call0_call0_call0_v95 : Ref sig .tc := ⟨.hbm, 150, rfl⟩
abbrev main_call0_call0_call0_c_24 : Ref sig .tc := ⟨.hbm, 151, rfl⟩
abbrev main_call0_call0_call0_v96 : Ref sig .tc := ⟨.hbm, 152, rfl⟩
abbrev main_call0_call0_call0_v97 : Ref sig .tc := ⟨.hbm, 153, rfl⟩
abbrev main_call0_call0_call0_c_25 : Ref sig .tc := ⟨.hbm, 154, rfl⟩
abbrev main_call0_call0_call0_v98 : Ref sig .tc := ⟨.hbm, 155, rfl⟩
abbrev main_call0_call0_call0_v99 : Ref sig .tc := ⟨.hbm, 156, rfl⟩
abbrev main_call0_call0_call0_v100 : Ref sig .tc := ⟨.hbm, 157, rfl⟩
abbrev main_call0_call0_call0_v101 : Ref sig .tc := ⟨.hbm, 158, rfl⟩
abbrev main_call0_call0_call0_v102 : Ref sig .tc := ⟨.hbm, 159, rfl⟩
abbrev main_call0_call0_call0_v103 : Ref sig .tc := ⟨.hbm, 160, rfl⟩
abbrev main_call0_call0_call0_v104 : Ref sig .tc := ⟨.hbm, 161, rfl⟩
abbrev main_call0_call0_call0_v105 : Ref sig .tc := ⟨.hbm, 162, rfl⟩
abbrev main_call0_call0_call0_c_26 : Ref sig .tc := ⟨.hbm, 163, rfl⟩
abbrev main_call0_call0_call0_v106 : Ref sig .tc := ⟨.hbm, 164, rfl⟩
abbrev main_call0_call0_call0_v107 : Ref sig .tc := ⟨.hbm, 165, rfl⟩
abbrev main_call0_call0_call0_v108 : Ref sig .tc := ⟨.hbm, 166, rfl⟩
abbrev main_call0_call0_call0_c_27 : Ref sig .tc := ⟨.hbm, 167, rfl⟩
abbrev main_call0_call0_call0_v109 : Ref sig .tc := ⟨.hbm, 168, rfl⟩
abbrev main_call0_call0_call0_v110 : Ref sig .tc := ⟨.hbm, 169, rfl⟩
abbrev main_call0_call0_call0_c_28 : Ref sig .tc := ⟨.hbm, 170, rfl⟩
abbrev main_call0_call0_call0_v111 : Ref sig .tc := ⟨.hbm, 171, rfl⟩
abbrev main_call0_call0_call0_v112 : Ref sig .tc := ⟨.hbm, 172, rfl⟩
abbrev main_call0_call0_call0_v113 : Ref sig .tc := ⟨.hbm, 173, rfl⟩
abbrev main_call0_call0_call0_v114 : Ref sig .tc := ⟨.hbm, 174, rfl⟩
abbrev main_call0_call0_call0_v115 : Ref sig .tc := ⟨.hbm, 175, rfl⟩
abbrev main_call0_call0_call0_c_29 : Ref sig .tc := ⟨.hbm, 176, rfl⟩
abbrev main_call0_call0_call0_v116 : Ref sig .tc := ⟨.hbm, 177, rfl⟩
abbrev main_call0_call0_call0_v117 : Ref sig .tc := ⟨.hbm, 178, rfl⟩
abbrev main_call0_call0_call0_c_30 : Ref sig .tc := ⟨.hbm, 179, rfl⟩
abbrev main_call0_call0_call0_v118 : Ref sig .tc := ⟨.hbm, 180, rfl⟩
abbrev main_call0_call0_call0_v119 : Ref sig .tc := ⟨.hbm, 181, rfl⟩
abbrev main_call0_call0_call0_v120 : Ref sig .tc := ⟨.hbm, 182, rfl⟩
abbrev main_call0_call0_call0_v121 : Ref sig .tc := ⟨.hbm, 183, rfl⟩
abbrev main_call0_call0_call0_v122 : Ref sig .tc := ⟨.hbm, 184, rfl⟩
abbrev main_call0_call0_call0_c_31 : Ref sig .tc := ⟨.hbm, 185, rfl⟩
abbrev main_call0_call0_call0_v123 : Ref sig .tc := ⟨.hbm, 186, rfl⟩
abbrev main_call0_call0_call0_v124 : Ref sig .tc := ⟨.hbm, 187, rfl⟩
abbrev main_call0_call0_call0_c_32 : Ref sig .tc := ⟨.hbm, 188, rfl⟩
abbrev main_call0_call0_call0_v125 : Ref sig .tc := ⟨.hbm, 189, rfl⟩
abbrev main_call0_call0_call0_v126 : Ref sig .tc := ⟨.hbm, 190, rfl⟩
abbrev main_call0_call0_call0_v127 : Ref sig .tc := ⟨.hbm, 191, rfl⟩
abbrev main_call0_call0_call0_v128 : Ref sig .tc := ⟨.hbm, 192, rfl⟩
abbrev main_call0_call0_call0_v129 : Ref sig .tc := ⟨.hbm, 193, rfl⟩
abbrev main_call0_call0_call0_c_33 : Ref sig .tc := ⟨.hbm, 194, rfl⟩
abbrev main_call0_call0_call0_v130 : Ref sig .tc := ⟨.hbm, 195, rfl⟩
abbrev main_call0_call0_call0_v131 : Ref sig .tc := ⟨.hbm, 196, rfl⟩
abbrev main_call0_call0_call0_c_34 : Ref sig .tc := ⟨.hbm, 197, rfl⟩
abbrev main_call0_call0_call0_v132 : Ref sig .tc := ⟨.hbm, 198, rfl⟩
abbrev main_call0_call0_call0_v133 : Ref sig .tc := ⟨.hbm, 199, rfl⟩
abbrev main_call0_call0_call0_v134 : Ref sig .tc := ⟨.hbm, 200, rfl⟩
abbrev main_call0_call0_call0_v135 : Ref sig .tc := ⟨.hbm, 201, rfl⟩
abbrev main_call0_call0_call0_v136 : Ref sig .tc := ⟨.hbm, 202, rfl⟩
abbrev main_call0_call0_call0_v137 : Ref sig .tc := ⟨.hbm, 203, rfl⟩
abbrev main_call0_call0_call0_v138 : Ref sig .tc := ⟨.hbm, 204, rfl⟩
abbrev main_call0_call0_call0_v139 : Ref sig .tc := ⟨.hbm, 205, rfl⟩
abbrev main_call0_call0_call0_c_35 : Ref sig .tc := ⟨.hbm, 206, rfl⟩
abbrev main_call0_call0_call0_v140 : Ref sig .tc := ⟨.hbm, 207, rfl⟩
abbrev main_call0_call0_call0_v141 : Ref sig .tc := ⟨.hbm, 208, rfl⟩
abbrev main_call0_call0_call0_v142 : Ref sig .tc := ⟨.hbm, 209, rfl⟩
abbrev main_call0_call0_call0_c_36 : Ref sig .tc := ⟨.hbm, 210, rfl⟩
abbrev main_call0_call0_call0_v143 : Ref sig .tc := ⟨.hbm, 211, rfl⟩
abbrev main_call0_call0_call0_v144 : Ref sig .tc := ⟨.hbm, 212, rfl⟩
abbrev main_call0_call0_call0_c_37 : Ref sig .tc := ⟨.hbm, 213, rfl⟩
abbrev main_call0_call0_call0_v145 : Ref sig .tc := ⟨.hbm, 214, rfl⟩
abbrev main_call0_call0_call0_v146 : Ref sig .tc := ⟨.hbm, 215, rfl⟩
abbrev main_call0_call0_call0_v147 : Ref sig .tc := ⟨.hbm, 216, rfl⟩
abbrev main_call0_call0_call0_v148 : Ref sig .tc := ⟨.hbm, 217, rfl⟩
abbrev main_call0_call0_call0_v149 : Ref sig .tc := ⟨.hbm, 218, rfl⟩
abbrev main_call0_call0_call0_c_38 : Ref sig .tc := ⟨.hbm, 219, rfl⟩
abbrev main_call0_call0_call0_v150 : Ref sig .tc := ⟨.hbm, 220, rfl⟩
abbrev main_call0_call0_call0_v151 : Ref sig .tc := ⟨.hbm, 221, rfl⟩
abbrev main_call0_call0_call0_c_39 : Ref sig .tc := ⟨.hbm, 222, rfl⟩
abbrev main_call0_call0_call0_v152 : Ref sig .tc := ⟨.hbm, 223, rfl⟩
abbrev main_call0_call0_call0_v153 : Ref sig .tc := ⟨.hbm, 224, rfl⟩
abbrev main_call0_call0_call0_v154 : Ref sig .tc := ⟨.hbm, 225, rfl⟩
abbrev main_call0_call0_call0_v155 : Ref sig .tc := ⟨.hbm, 226, rfl⟩
abbrev main_call0_call0_call0_v156 : Ref sig .tc := ⟨.hbm, 227, rfl⟩
abbrev main_call0_call0_call0_c_40 : Ref sig .tc := ⟨.hbm, 228, rfl⟩
abbrev main_call0_call0_call0_v157 : Ref sig .tc := ⟨.hbm, 229, rfl⟩
abbrev main_call0_call0_call0_v158 : Ref sig .tc := ⟨.hbm, 230, rfl⟩
abbrev main_call0_call0_call0_c_41 : Ref sig .tc := ⟨.hbm, 231, rfl⟩
abbrev main_call0_call0_call0_v159 : Ref sig .tc := ⟨.hbm, 232, rfl⟩
abbrev main_call0_call0_call0_v160 : Ref sig .tc := ⟨.hbm, 233, rfl⟩
abbrev main_call0_call0_call0_v161 : Ref sig .tc := ⟨.hbm, 234, rfl⟩
abbrev main_call0_call0_call0_v162 : Ref sig .tc := ⟨.hbm, 235, rfl⟩
abbrev main_call0_call0_call0_v163 : Ref sig .tc := ⟨.hbm, 236, rfl⟩
abbrev main_call0_call0_call0_c_42 : Ref sig .tc := ⟨.hbm, 237, rfl⟩
abbrev main_call0_call0_call0_v164 : Ref sig .tc := ⟨.hbm, 238, rfl⟩
abbrev main_call0_call0_call0_v165 : Ref sig .tc := ⟨.hbm, 239, rfl⟩
abbrev main_call0_call0_call0_c_43 : Ref sig .tc := ⟨.hbm, 240, rfl⟩
abbrev main_call0_call0_call0_v166 : Ref sig .tc := ⟨.hbm, 241, rfl⟩
abbrev main_call0_call0_call0_v167 : Ref sig .tc := ⟨.hbm, 242, rfl⟩
abbrev main_call0_call0_call0_v168 : Ref sig .tc := ⟨.hbm, 243, rfl⟩
abbrev main_call0_call0_call0_v169 : Ref sig .tc := ⟨.hbm, 244, rfl⟩
abbrev main_call0_call0_call0_v170 : Ref sig .tc := ⟨.hbm, 245, rfl⟩
abbrev main_call0_call0_v11_0 : Ref sig .tc := ⟨.hbm, 246, rfl⟩
abbrev main_call0_call0_call0_v172 : Ref sig .tc := ⟨.hbm, 247, rfl⟩
abbrev main_call0_call0_call0_v173 : Ref sig .tc := ⟨.hbm, 248, rfl⟩
abbrev main_call0_call0_call0_c_44 : Ref sig .tc := ⟨.hbm, 249, rfl⟩
abbrev main_call0_call0_call0_v174 : Ref sig .tc := ⟨.hbm, 250, rfl⟩
abbrev main_call0_call0_v11_1 : Ref sig .tc := ⟨.hbm, 251, rfl⟩
abbrev main_call0_call0_v12 : Ref sig .tc := ⟨.hbm, 252, rfl⟩
abbrev main_call0_call0_v13 : Ref sig .tc := ⟨.hbm, 253, rfl⟩
abbrev main_call0_v0 : Ref sig .tc := ⟨.hbm, 254, rfl⟩
abbrev main_call0_v1 : Ref sig .tc := ⟨.hbm, 255, rfl⟩
abbrev main_call0_v2 : Ref sig .tc := ⟨.hbm, 256, rfl⟩
abbrev main_call0_v3 : Ref sig .tc := ⟨.hbm, 257, rfl⟩
abbrev main_call0_v4 : Ref sig .tc := ⟨.hbm, 258, rfl⟩
abbrev main_call0_v5 : Ref sig .tc := ⟨.hbm, 259, rfl⟩
abbrev main_call0_v6 : Ref sig .tc := ⟨.hbm, 260, rfl⟩
abbrev main_call0_v7 : Ref sig .tc := ⟨.hbm, 261, rfl⟩
abbrev main_call0_v8 : Ref sig .tc := ⟨.hbm, 262, rfl⟩
abbrev main_call0_v9 : Ref sig .tc := ⟨.hbm, 263, rfl⟩
abbrev main_call0_c : Ref sig .tc := ⟨.hbm, 264, rfl⟩
abbrev main_call0_v10 : Ref sig .tc := ⟨.hbm, 265, rfl⟩
abbrev main_call0_v11 : Ref sig .tc := ⟨.hbm, 266, rfl⟩
abbrev main_call0_c_0 : Ref sig .tc := ⟨.hbm, 267, rfl⟩
abbrev main_call0_v12 : Ref sig .tc := ⟨.hbm, 268, rfl⟩
abbrev main_call0_v13 : Ref sig .tc := ⟨.hbm, 269, rfl⟩
abbrev main_call0_v14 : Ref sig .tc := ⟨.hbm, 270, rfl⟩
abbrev main_call0_v15 : Ref sig .tc := ⟨.hbm, 271, rfl⟩
abbrev main_call0_call1_v0 : Ref sig .tc := ⟨.hbm, 272, rfl⟩
abbrev main_call0_call1_c : Ref sig .tc := ⟨.hbm, 273, rfl⟩
abbrev main_call0_call1_v1 : Ref sig .tc := ⟨.hbm, 274, rfl⟩
abbrev main_call0_call1_v2 : Ref sig .tc := ⟨.hbm, 275, rfl⟩
abbrev main_call0_call1_v3 : Ref sig .tc := ⟨.hbm, 276, rfl⟩
abbrev main_call0_call1_v4 : Ref sig .tc := ⟨.hbm, 277, rfl⟩
abbrev main_call0_call1_v5 : Ref sig .tc := ⟨.hbm, 278, rfl⟩
abbrev main_call0_call1_v6 : Ref sig .tc := ⟨.hbm, 279, rfl⟩
abbrev main_call0_call1_c_0 : Ref sig .tc := ⟨.hbm, 280, rfl⟩
abbrev main_call0_call1_v7 : Ref sig .tc := ⟨.hbm, 281, rfl⟩
abbrev main_call0_call1_v8 : Ref sig .tc := ⟨.hbm, 282, rfl⟩
abbrev main_call0_call1_c_1 : Ref sig .tc := ⟨.hbm, 283, rfl⟩
abbrev main_call0_call1_v9 : Ref sig .tc := ⟨.hbm, 284, rfl⟩
abbrev main_call0_call1_v10 : Ref sig .tc := ⟨.hbm, 285, rfl⟩
abbrev main_call0_call1_v11 : Ref sig .tc := ⟨.hbm, 286, rfl⟩
abbrev main_call0_call1_v12 : Ref sig .tc := ⟨.hbm, 287, rfl⟩
abbrev main_call0_call1_v13 : Ref sig .tc := ⟨.hbm, 288, rfl⟩
abbrev main_call0_call1_c_2 : Ref sig .tc := ⟨.hbm, 289, rfl⟩
abbrev main_call0_call1_v14 : Ref sig .tc := ⟨.hbm, 290, rfl⟩
abbrev main_call0_call1_v15 : Ref sig .tc := ⟨.hbm, 291, rfl⟩
abbrev main_call0_call1_c_3 : Ref sig .tc := ⟨.hbm, 292, rfl⟩
abbrev main_call0_call1_v16 : Ref sig .tc := ⟨.hbm, 293, rfl⟩
abbrev main_call0_call1_v17 : Ref sig .tc := ⟨.hbm, 294, rfl⟩
abbrev main_call0_call1_v18 : Ref sig .tc := ⟨.hbm, 295, rfl⟩
abbrev main_call0_call1_v19 : Ref sig .tc := ⟨.hbm, 296, rfl⟩
abbrev main_call0_call1_v20 : Ref sig .tc := ⟨.hbm, 297, rfl⟩
abbrev main_call0_call1_c_4 : Ref sig .tc := ⟨.hbm, 298, rfl⟩
abbrev main_call0_call1_v21 : Ref sig .tc := ⟨.hbm, 299, rfl⟩
abbrev main_call0_call1_v22 : Ref sig .tc := ⟨.hbm, 300, rfl⟩
abbrev main_call0_call1_c_5 : Ref sig .tc := ⟨.hbm, 301, rfl⟩
abbrev main_call0_call1_v23 : Ref sig .tc := ⟨.hbm, 302, rfl⟩
abbrev main_call0_call1_v24 : Ref sig .tc := ⟨.hbm, 303, rfl⟩
abbrev main_call0_call1_v25 : Ref sig .tc := ⟨.hbm, 304, rfl⟩
abbrev main_call0_call1_v26 : Ref sig .tc := ⟨.hbm, 305, rfl⟩
abbrev main_call0_call1_v27 : Ref sig .tc := ⟨.hbm, 306, rfl⟩
abbrev main_call0_call1_c_6 : Ref sig .tc := ⟨.hbm, 307, rfl⟩
abbrev main_call0_call1_v28 : Ref sig .tc := ⟨.hbm, 308, rfl⟩
abbrev main_call0_call1_v29 : Ref sig .tc := ⟨.hbm, 309, rfl⟩
abbrev main_call0_call1_c_7 : Ref sig .tc := ⟨.hbm, 310, rfl⟩
abbrev main_call0_call1_v30 : Ref sig .tc := ⟨.hbm, 311, rfl⟩
abbrev main_call0_call1_v31 : Ref sig .tc := ⟨.hbm, 312, rfl⟩
abbrev main_call0_call1_v32 : Ref sig .tc := ⟨.hbm, 313, rfl⟩
abbrev main_call0_call1_v33 : Ref sig .tc := ⟨.hbm, 314, rfl⟩
abbrev main_call0_call1_v34 : Ref sig .tc := ⟨.hbm, 315, rfl⟩
abbrev main_call0_call1_v35 : Ref sig .tc := ⟨.hbm, 316, rfl⟩
abbrev main_call0_call1_v36 : Ref sig .tc := ⟨.hbm, 317, rfl⟩
abbrev main_call0_call1_v37 : Ref sig .tc := ⟨.hbm, 318, rfl⟩
abbrev main_call0_call1_c_8 : Ref sig .tc := ⟨.hbm, 319, rfl⟩
abbrev main_call0_call1_v38 : Ref sig .tc := ⟨.hbm, 320, rfl⟩
abbrev main_call0_call1_v39 : Ref sig .tc := ⟨.hbm, 321, rfl⟩
abbrev main_call0_call1_v40 : Ref sig .tc := ⟨.hbm, 322, rfl⟩
abbrev main_call0_call1_c_9 : Ref sig .tc := ⟨.hbm, 323, rfl⟩
abbrev main_call0_call1_v41 : Ref sig .tc := ⟨.hbm, 324, rfl⟩
abbrev main_call0_call1_v42 : Ref sig .tc := ⟨.hbm, 325, rfl⟩
abbrev main_call0_call1_c_10 : Ref sig .tc := ⟨.hbm, 326, rfl⟩
abbrev main_call0_call1_v43 : Ref sig .tc := ⟨.hbm, 327, rfl⟩
abbrev main_call0_call1_v44 : Ref sig .tc := ⟨.hbm, 328, rfl⟩
abbrev main_call0_call1_v45 : Ref sig .tc := ⟨.hbm, 329, rfl⟩
abbrev main_call0_call1_v46 : Ref sig .tc := ⟨.hbm, 330, rfl⟩
abbrev main_call0_call1_v47 : Ref sig .tc := ⟨.hbm, 331, rfl⟩
abbrev main_call0_call1_c_11 : Ref sig .tc := ⟨.hbm, 332, rfl⟩
abbrev main_call0_call1_v48 : Ref sig .tc := ⟨.hbm, 333, rfl⟩
abbrev main_call0_call1_v49 : Ref sig .tc := ⟨.hbm, 334, rfl⟩
abbrev main_call0_call1_c_12 : Ref sig .tc := ⟨.hbm, 335, rfl⟩
abbrev main_call0_call1_v50 : Ref sig .tc := ⟨.hbm, 336, rfl⟩
abbrev main_call0_call1_v51 : Ref sig .tc := ⟨.hbm, 337, rfl⟩
abbrev main_call0_call1_v52 : Ref sig .tc := ⟨.hbm, 338, rfl⟩
abbrev main_call0_call1_v53 : Ref sig .tc := ⟨.hbm, 339, rfl⟩
abbrev main_call0_call1_v54 : Ref sig .tc := ⟨.hbm, 340, rfl⟩
abbrev main_call0_call1_c_13 : Ref sig .tc := ⟨.hbm, 341, rfl⟩
abbrev main_call0_call1_v55 : Ref sig .tc := ⟨.hbm, 342, rfl⟩
abbrev main_call0_call1_v56 : Ref sig .tc := ⟨.hbm, 343, rfl⟩
abbrev main_call0_call1_c_14 : Ref sig .tc := ⟨.hbm, 344, rfl⟩
abbrev main_call0_call1_v57 : Ref sig .tc := ⟨.hbm, 345, rfl⟩
abbrev main_call0_call1_v58 : Ref sig .tc := ⟨.hbm, 346, rfl⟩
abbrev main_call0_call1_v59 : Ref sig .tc := ⟨.hbm, 347, rfl⟩
abbrev main_call0_call1_v60 : Ref sig .tc := ⟨.hbm, 348, rfl⟩
abbrev main_call0_call1_v61 : Ref sig .tc := ⟨.hbm, 349, rfl⟩
abbrev main_call0_call1_c_15 : Ref sig .tc := ⟨.hbm, 350, rfl⟩
abbrev main_call0_call1_v62 : Ref sig .tc := ⟨.hbm, 351, rfl⟩
abbrev main_call0_call1_v63 : Ref sig .tc := ⟨.hbm, 352, rfl⟩
abbrev main_call0_call1_c_16 : Ref sig .tc := ⟨.hbm, 353, rfl⟩
abbrev main_call0_call1_v64 : Ref sig .tc := ⟨.hbm, 354, rfl⟩
abbrev main_call0_call1_v65 : Ref sig .tc := ⟨.hbm, 355, rfl⟩
abbrev main_call0_call1_v66 : Ref sig .tc := ⟨.hbm, 356, rfl⟩
abbrev main_call0_call1_v67 : Ref sig .tc := ⟨.hbm, 357, rfl⟩
abbrev main_call0_call1_v68 : Ref sig .tc := ⟨.hbm, 358, rfl⟩
abbrev main_call0_call1_v69 : Ref sig .tc := ⟨.hbm, 359, rfl⟩
abbrev main_call0_call1_v70 : Ref sig .tc := ⟨.hbm, 360, rfl⟩
abbrev main_call0_call1_v71 : Ref sig .tc := ⟨.hbm, 361, rfl⟩
abbrev main_call0_call1_c_17 : Ref sig .tc := ⟨.hbm, 362, rfl⟩
abbrev main_call0_call1_v72 : Ref sig .tc := ⟨.hbm, 363, rfl⟩
abbrev main_call0_call1_v73 : Ref sig .tc := ⟨.hbm, 364, rfl⟩
abbrev main_call0_call1_v74 : Ref sig .tc := ⟨.hbm, 365, rfl⟩
abbrev main_call0_call1_c_18 : Ref sig .tc := ⟨.hbm, 366, rfl⟩
abbrev main_call0_call1_v75 : Ref sig .tc := ⟨.hbm, 367, rfl⟩
abbrev main_call0_call1_v76 : Ref sig .tc := ⟨.hbm, 368, rfl⟩
abbrev main_call0_call1_c_19 : Ref sig .tc := ⟨.hbm, 369, rfl⟩
abbrev main_call0_call1_v77 : Ref sig .tc := ⟨.hbm, 370, rfl⟩
abbrev main_call0_call1_v78 : Ref sig .tc := ⟨.hbm, 371, rfl⟩
abbrev main_call0_call1_v79 : Ref sig .tc := ⟨.hbm, 372, rfl⟩
abbrev main_call0_call1_v80 : Ref sig .tc := ⟨.hbm, 373, rfl⟩
abbrev main_call0_call1_v81 : Ref sig .tc := ⟨.hbm, 374, rfl⟩
abbrev main_call0_call1_c_20 : Ref sig .tc := ⟨.hbm, 375, rfl⟩
abbrev main_call0_call1_v82 : Ref sig .tc := ⟨.hbm, 376, rfl⟩
abbrev main_call0_call1_v83 : Ref sig .tc := ⟨.hbm, 377, rfl⟩
abbrev main_call0_call1_c_21 : Ref sig .tc := ⟨.hbm, 378, rfl⟩
abbrev main_call0_call1_v84 : Ref sig .tc := ⟨.hbm, 379, rfl⟩
abbrev main_call0_call1_v85 : Ref sig .tc := ⟨.hbm, 380, rfl⟩
abbrev main_call0_call1_v86 : Ref sig .tc := ⟨.hbm, 381, rfl⟩
abbrev main_call0_call1_v87 : Ref sig .tc := ⟨.hbm, 382, rfl⟩
abbrev main_call0_call1_v88 : Ref sig .tc := ⟨.hbm, 383, rfl⟩
abbrev main_call0_call1_c_22 : Ref sig .tc := ⟨.hbm, 384, rfl⟩
abbrev main_call0_call1_v89 : Ref sig .tc := ⟨.hbm, 385, rfl⟩
abbrev main_call0_call1_v90 : Ref sig .tc := ⟨.hbm, 386, rfl⟩
abbrev main_call0_call1_c_23 : Ref sig .tc := ⟨.hbm, 387, rfl⟩
abbrev main_call0_call1_v91 : Ref sig .tc := ⟨.hbm, 388, rfl⟩
abbrev main_call0_call1_v92 : Ref sig .tc := ⟨.hbm, 389, rfl⟩
abbrev main_call0_call1_v93 : Ref sig .tc := ⟨.hbm, 390, rfl⟩
abbrev main_call0_call1_v94 : Ref sig .tc := ⟨.hbm, 391, rfl⟩
abbrev main_call0_call1_v95 : Ref sig .tc := ⟨.hbm, 392, rfl⟩
abbrev main_call0_call1_c_24 : Ref sig .tc := ⟨.hbm, 393, rfl⟩
abbrev main_call0_call1_v96 : Ref sig .tc := ⟨.hbm, 394, rfl⟩
abbrev main_call0_call1_v97 : Ref sig .tc := ⟨.hbm, 395, rfl⟩
abbrev main_call0_call1_c_25 : Ref sig .tc := ⟨.hbm, 396, rfl⟩
abbrev main_call0_call1_v98 : Ref sig .tc := ⟨.hbm, 397, rfl⟩
abbrev main_call0_call1_v99 : Ref sig .tc := ⟨.hbm, 398, rfl⟩
abbrev main_call0_call1_v100 : Ref sig .tc := ⟨.hbm, 399, rfl⟩
abbrev main_call0_call1_v101 : Ref sig .tc := ⟨.hbm, 400, rfl⟩
abbrev main_call0_call1_v102 : Ref sig .tc := ⟨.hbm, 401, rfl⟩
abbrev main_call0_call1_v103 : Ref sig .tc := ⟨.hbm, 402, rfl⟩
abbrev main_call0_call1_v104 : Ref sig .tc := ⟨.hbm, 403, rfl⟩
abbrev main_call0_call1_v105 : Ref sig .tc := ⟨.hbm, 404, rfl⟩
abbrev main_call0_call1_c_26 : Ref sig .tc := ⟨.hbm, 405, rfl⟩
abbrev main_call0_call1_v106 : Ref sig .tc := ⟨.hbm, 406, rfl⟩
abbrev main_call0_call1_v107 : Ref sig .tc := ⟨.hbm, 407, rfl⟩
abbrev main_call0_call1_v108 : Ref sig .tc := ⟨.hbm, 408, rfl⟩
abbrev main_call0_call1_c_27 : Ref sig .tc := ⟨.hbm, 409, rfl⟩
abbrev main_call0_call1_v109 : Ref sig .tc := ⟨.hbm, 410, rfl⟩
abbrev main_call0_call1_v110 : Ref sig .tc := ⟨.hbm, 411, rfl⟩
abbrev main_call0_call1_c_28 : Ref sig .tc := ⟨.hbm, 412, rfl⟩
abbrev main_call0_call1_v111 : Ref sig .tc := ⟨.hbm, 413, rfl⟩
abbrev main_call0_call1_v112 : Ref sig .tc := ⟨.hbm, 414, rfl⟩
abbrev main_call0_call1_v113 : Ref sig .tc := ⟨.hbm, 415, rfl⟩
abbrev main_call0_call1_v114 : Ref sig .tc := ⟨.hbm, 416, rfl⟩
abbrev main_call0_call1_v115 : Ref sig .tc := ⟨.hbm, 417, rfl⟩
abbrev main_call0_call1_c_29 : Ref sig .tc := ⟨.hbm, 418, rfl⟩
abbrev main_call0_call1_v116 : Ref sig .tc := ⟨.hbm, 419, rfl⟩
abbrev main_call0_call1_v117 : Ref sig .tc := ⟨.hbm, 420, rfl⟩
abbrev main_call0_call1_c_30 : Ref sig .tc := ⟨.hbm, 421, rfl⟩
abbrev main_call0_call1_v118 : Ref sig .tc := ⟨.hbm, 422, rfl⟩
abbrev main_call0_call1_v119 : Ref sig .tc := ⟨.hbm, 423, rfl⟩
abbrev main_call0_call1_v120 : Ref sig .tc := ⟨.hbm, 424, rfl⟩
abbrev main_call0_call1_v121 : Ref sig .tc := ⟨.hbm, 425, rfl⟩
abbrev main_call0_call1_v122 : Ref sig .tc := ⟨.hbm, 426, rfl⟩
abbrev main_call0_call1_c_31 : Ref sig .tc := ⟨.hbm, 427, rfl⟩
abbrev main_call0_call1_v123 : Ref sig .tc := ⟨.hbm, 428, rfl⟩
abbrev main_call0_call1_v124 : Ref sig .tc := ⟨.hbm, 429, rfl⟩
abbrev main_call0_call1_c_32 : Ref sig .tc := ⟨.hbm, 430, rfl⟩
abbrev main_call0_call1_v125 : Ref sig .tc := ⟨.hbm, 431, rfl⟩
abbrev main_call0_call1_v126 : Ref sig .tc := ⟨.hbm, 432, rfl⟩
abbrev main_call0_call1_v127 : Ref sig .tc := ⟨.hbm, 433, rfl⟩
abbrev main_call0_call1_v128 : Ref sig .tc := ⟨.hbm, 434, rfl⟩
abbrev main_call0_call1_v129 : Ref sig .tc := ⟨.hbm, 435, rfl⟩
abbrev main_call0_call1_c_33 : Ref sig .tc := ⟨.hbm, 436, rfl⟩
abbrev main_call0_call1_v130 : Ref sig .tc := ⟨.hbm, 437, rfl⟩
abbrev main_call0_call1_v131 : Ref sig .tc := ⟨.hbm, 438, rfl⟩
abbrev main_call0_call1_c_34 : Ref sig .tc := ⟨.hbm, 439, rfl⟩
abbrev main_call0_call1_v132 : Ref sig .tc := ⟨.hbm, 440, rfl⟩
abbrev main_call0_call1_v133 : Ref sig .tc := ⟨.hbm, 441, rfl⟩
abbrev main_call0_call1_v134 : Ref sig .tc := ⟨.hbm, 442, rfl⟩
abbrev main_call0_call1_v135 : Ref sig .tc := ⟨.hbm, 443, rfl⟩
abbrev main_call0_call1_v136 : Ref sig .tc := ⟨.hbm, 444, rfl⟩
abbrev main_call0_call1_v137 : Ref sig .tc := ⟨.hbm, 445, rfl⟩
abbrev main_call0_call1_v138 : Ref sig .tc := ⟨.hbm, 446, rfl⟩
abbrev main_call0_call1_v139 : Ref sig .tc := ⟨.hbm, 447, rfl⟩
abbrev main_call0_call1_c_35 : Ref sig .tc := ⟨.hbm, 448, rfl⟩
abbrev main_call0_call1_v140 : Ref sig .tc := ⟨.hbm, 449, rfl⟩
abbrev main_call0_call1_v141 : Ref sig .tc := ⟨.hbm, 450, rfl⟩
abbrev main_call0_call1_v142 : Ref sig .tc := ⟨.hbm, 451, rfl⟩
abbrev main_call0_call1_c_36 : Ref sig .tc := ⟨.hbm, 452, rfl⟩
abbrev main_call0_call1_v143 : Ref sig .tc := ⟨.hbm, 453, rfl⟩
abbrev main_call0_call1_v144 : Ref sig .tc := ⟨.hbm, 454, rfl⟩
abbrev main_call0_call1_c_37 : Ref sig .tc := ⟨.hbm, 455, rfl⟩
abbrev main_call0_call1_v145 : Ref sig .tc := ⟨.hbm, 456, rfl⟩
abbrev main_call0_call1_v146 : Ref sig .tc := ⟨.hbm, 457, rfl⟩
abbrev main_call0_call1_v147 : Ref sig .tc := ⟨.hbm, 458, rfl⟩
abbrev main_call0_call1_v148 : Ref sig .tc := ⟨.hbm, 459, rfl⟩
abbrev main_call0_call1_v149 : Ref sig .tc := ⟨.hbm, 460, rfl⟩
abbrev main_call0_call1_c_38 : Ref sig .tc := ⟨.hbm, 461, rfl⟩
abbrev main_call0_call1_v150 : Ref sig .tc := ⟨.hbm, 462, rfl⟩
abbrev main_call0_call1_v151 : Ref sig .tc := ⟨.hbm, 463, rfl⟩
abbrev main_call0_call1_c_39 : Ref sig .tc := ⟨.hbm, 464, rfl⟩
abbrev main_call0_call1_v152 : Ref sig .tc := ⟨.hbm, 465, rfl⟩
abbrev main_call0_call1_v153 : Ref sig .tc := ⟨.hbm, 466, rfl⟩
abbrev main_call0_call1_v154 : Ref sig .tc := ⟨.hbm, 467, rfl⟩
abbrev main_call0_call1_v155 : Ref sig .tc := ⟨.hbm, 468, rfl⟩
abbrev main_call0_call1_v156 : Ref sig .tc := ⟨.hbm, 469, rfl⟩
abbrev main_call0_call1_c_40 : Ref sig .tc := ⟨.hbm, 470, rfl⟩
abbrev main_call0_call1_v157 : Ref sig .tc := ⟨.hbm, 471, rfl⟩
abbrev main_call0_call1_v158 : Ref sig .tc := ⟨.hbm, 472, rfl⟩
abbrev main_call0_call1_c_41 : Ref sig .tc := ⟨.hbm, 473, rfl⟩
abbrev main_call0_call1_v159 : Ref sig .tc := ⟨.hbm, 474, rfl⟩
abbrev main_call0_call1_v160 : Ref sig .tc := ⟨.hbm, 475, rfl⟩
abbrev main_call0_call1_v161 : Ref sig .tc := ⟨.hbm, 476, rfl⟩
abbrev main_call0_call1_v162 : Ref sig .tc := ⟨.hbm, 477, rfl⟩
abbrev main_call0_call1_v163 : Ref sig .tc := ⟨.hbm, 478, rfl⟩
abbrev main_call0_call1_c_42 : Ref sig .tc := ⟨.hbm, 479, rfl⟩
abbrev main_call0_call1_v164 : Ref sig .tc := ⟨.hbm, 480, rfl⟩
abbrev main_call0_call1_v165 : Ref sig .tc := ⟨.hbm, 481, rfl⟩
abbrev main_call0_call1_c_43 : Ref sig .tc := ⟨.hbm, 482, rfl⟩
abbrev main_call0_call1_v166 : Ref sig .tc := ⟨.hbm, 483, rfl⟩
abbrev main_call0_call1_v167 : Ref sig .tc := ⟨.hbm, 484, rfl⟩
abbrev main_call0_call1_v168 : Ref sig .tc := ⟨.hbm, 485, rfl⟩
abbrev main_call0_call1_v169 : Ref sig .tc := ⟨.hbm, 486, rfl⟩
abbrev main_call0_call1_v170 : Ref sig .tc := ⟨.hbm, 487, rfl⟩
abbrev main_call0_v16_0 : Ref sig .tc := ⟨.hbm, 488, rfl⟩
abbrev main_call0_call1_v172 : Ref sig .tc := ⟨.hbm, 489, rfl⟩
abbrev main_call0_call1_v173 : Ref sig .tc := ⟨.hbm, 490, rfl⟩
abbrev main_call0_call1_c_44 : Ref sig .tc := ⟨.hbm, 491, rfl⟩
abbrev main_call0_call1_v174 : Ref sig .tc := ⟨.hbm, 492, rfl⟩
abbrev main_call0_v16_1 : Ref sig .tc := ⟨.hbm, 493, rfl⟩
abbrev main_call0_v17 : Ref sig .tc := ⟨.hbm, 494, rfl⟩
abbrev main_call0_v18_0 : Ref sig .tc := ⟨.hbm, 495, rfl⟩
abbrev main_v11 : Ref sig .tc := ⟨.hbm, 496, rfl⟩
abbrev main_c_3 : Ref sig .tc := ⟨.hbm, 497, rfl⟩
abbrev main_v12 : Ref sig .tc := ⟨.hbm, 498, rfl⟩
abbrev main_v13 : Ref sig .tc := ⟨.hbm, 499, rfl⟩
abbrev main_c_4 : Ref sig .tc := ⟨.hbm, 500, rfl⟩
abbrev main_v14 : Ref sig .tc := ⟨.hbm, 501, rfl⟩
abbrev main_v15 : Ref sig .tc := ⟨.hbm, 502, rfl⟩
abbrev main_v16 : Ref sig .tc := ⟨.hbm, 503, rfl⟩
abbrev main_v17 : Ref sig .tc := ⟨.hbm, 504, rfl⟩
abbrev main_v18 : Ref sig .tc := ⟨.hbm, 505, rfl⟩
abbrev main_v19 : Ref sig .tc := ⟨.hbm, 506, rfl⟩
abbrev main_cst_5 : Ref sig .tc := ⟨.hbm, 507, rfl⟩
abbrev main_v20 : Ref sig .tc := ⟨.hbm, 508, rfl⟩
abbrev main_call1_v0 : Ref sig .tc := ⟨.hbm, 509, rfl⟩
abbrev main_call1_v1 : Ref sig .tc := ⟨.hbm, 510, rfl⟩
abbrev main_call1_v2 : Ref sig .tc := ⟨.hbm, 511, rfl⟩
abbrev main_call1_v3 : Ref sig .tc := ⟨.hbm, 512, rfl⟩
abbrev main_call1_v4 : Ref sig .tc := ⟨.hbm, 513, rfl⟩
abbrev main_v21 : Ref sig .tc := ⟨.hbm, 514, rfl⟩
abbrev main_v22 : Ref sig .tc := ⟨.hbm, 515, rfl⟩
abbrev main_v23 : Ref sig .tc := ⟨.hbm, 516, rfl⟩
abbrev main_cst_6 : Ref sig .tc := ⟨.hbm, 517, rfl⟩
abbrev main_v24 : Ref sig .tc := ⟨.hbm, 518, rfl⟩
abbrev main_v25 : Ref sig .tc := ⟨.hbm, 519, rfl⟩
abbrev main_v26 : Ref sig .tc := ⟨.hbm, 520, rfl⟩
abbrev main_cst_7 : Ref sig .tc := ⟨.hbm, 521, rfl⟩
abbrev main_call2_v0 : Ref sig .tc := ⟨.hbm, 522, rfl⟩
abbrev main_v27 : Ref sig .tc := ⟨.hbm, 523, rfl⟩

abbrev nD : Nat := 1
abbrev τ : Topo := Topo.v7x

variable {F : FTy → Type} [FloatOps F]
-- ==== Proof.KernelValue.lean ====
/-
  What the kernel leaves in its result: zero where the mask is not zero, the input elsewhere.
-/
module

public import proofs.«01_k».proof.Proof.Gen.KernelIdeal.Value
public import Idealize.ShloMosaic.Lib.Pipeline.ValueKit

@[expose] public section

noncomputable section

namespace Cert.KernelIdeal.Erased

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The place of the 512 × 512 mask over which an index of the (96, 512, 512) array lies. -/
def under (i : S96x512x512.Idx) : S512x512.Idx := fun a => match a with
  | ⟨0, _⟩ => ⟨(i 1).val, (i 1).isLt⟩
  | ⟨1, _⟩ => ⟨(i 2).val, (i 2).isLt⟩

/-- The array `X` with zero put where the mask `M`, repeated over the channels, differs from zero. -/
def erased (M : Vec F S512x512 .f32) (X : Vec F S96x512x512 .f32) : Vec F S96x512x512 .f32 := fun i =>
  Scalar.select (FloatOps.cmpf .one (M (under i)) (Scalar.ofBits .f32 0x00000000#32)) (Scalar.ofBits .f32 0x00000000#32) (X i)

/-- The block of the mask stays at the origin; the blocks of input and output move together, along the channels only. -/
theorem blocks (t : Fin grid0.N) : win0_0.index t 0 = 0 ∧ win0_0.index t 1 = 0
    ∧ win0_1.index t 0 = win0_2.index t 0 ∧ win0_1.index t 1 = 0 ∧ win0_1.index t 2 = 0
    ∧ win0_2.index t 1 = 0 ∧ win0_2.index t 2 = 0 := by
  revert t; decide +kernel

/-- The mask's block, read where the body reads it for the output place `y`, is the mask under `y`'s place in the array. -/
theorem mask_block (A : Vec F S512x512 .f32) (t : Fin grid0.N) (y : S8x512x512.Idx) :
    (win0_0.blk t).view.read (Elt F) A (Value.ix2_0 (r0_1.idx y)) = A (under ((win0_2.blk t).view.emb y)) := by
  obtain ⟨e1, e2, _, _, _, e6, e7⟩ := blocks t
  show A ((win0_0.blk t).view.emb _) = _
  refine congrArg A (funext fun a => Fin.ext ?_)
  match a with
  | ⟨0, _⟩ => show win0_0.index t 0 * 512 + 1 * (0 + 1 * (y 1).val) = win0_2.index t 1 * 512 + 1 * (y 1).val
              omega
  | ⟨1, _⟩ => show win0_0.index t 1 * 512 + 1 * (0 + 1 * (y 2).val) = win0_2.index t 2 * 512 + 1 * (y 2).val
              omega

/-- The input's block, read where the body reads it for the output place `y`, is the input at `y`'s place in the array. -/
theorem input_block (A : Vec F S96x512x512 .f32) (t : Fin grid0.N) (y : S8x512x512.Idx) :
    (win0_1.blk t).view.read (Elt F) A (Value.ix2_1 (r0_1.idx y)) = A ((win0_2.blk t).view.emb y) := by
  obtain ⟨_, _, e3, e4, e5, e6, e7⟩ := blocks t
  show A ((win0_1.blk t).view.emb _) = _
  refine congrArg A (funext fun a => Fin.ext ?_)
  match a with
  | ⟨0, _⟩ => show win0_1.index t 0 * 8 + 1 * (0 + 1 * (y 0).val) = win0_2.index t 0 * 8 + 1 * (y 0).val
              omega
  | ⟨1, _⟩ => show win0_1.index t 1 * 512 + 1 * (0 + 1 * (y 1).val) = win0_2.index t 1 * 512 + 1 * (y 1).val
              omega
  | ⟨2, _⟩ => show win0_1.index t 2 * 512 + 1 * (0 + 1 * (y 2).val) = win0_2.index t 2 * 512 + 1 * (y 2).val
              omega

/-- The result array after the last grid point is the input with the masked places put to zero. -/
theorem final (c : Dev nD) :
    (dats m 0 c).arrAt 2 cfg0.N = erased (V m c main_v21) (V m c main_arg0) := by
  refine (dats m 0 c).arrAt_eq_of_covers 2 _ (by decide +kernel) fun t _ y => ?_
  blk_simp
  rw [after0_2]
  unfold out0_2
  frame_out
  rw [Value.piece2_0]
  unfold iblk Value.E2 erased
  rw [← mask_block (V m c main_v21) t y, ← input_block (V m c main_arg0) t y]

/-- The kernel's run: the result is the input with the masked places put to zero, and the input is unchanged. -/
theorem run : θ_run defs (onTc (τ := τ) (main (F := F))) ⟨m, fun _ => 0, ρ⟩ fun r => ∀ c : Dev nD,
      r.2.mem ((c : Thread nD τ).loc main_v22) = erased (V m c main_v21) (m ((c : Thread nD τ).loc main_arg0))
      ∧ r.2.mem ((c : Thread nD τ).loc main_arg0) = m ((c : Thread nD τ).loc main_arg0) :=
  (θ_run defs _ _).mono (fun _ h c => ⟨(h c).1.trans ((final m c).trans (by rw [V_main_arg0])), (h c).2⟩)
    (Value.run_blocks m ρ)

end Cert.KernelIdeal.Erased

end
-- ==== Proof.Lockstep.lean ====
/-
  Two host programs that run the same operations, step by step.

  The kernel's @main and the reference's @main build the patch mask by the same sequence of host operations, but they are
  programs over two different signatures: the kernel's also has staging buffers, the reference's also has the arrays of its
  own last steps. Here is what it takes to say that the two sequences leave the same contents, with no look at what any
  operation computes: buffers are matched by their index in device memory, and one step of both programs extends the
  stretch of indices at which the two memories agree.
-/
module

public import Idealize.ShloMosaic.Lib.StableHlo
public import Idealize.ShloMosaic.Lib.StableHlo.Run

@[expose] public section

noncomputable section

namespace Cert.Lockstep

open Idealize.ShloMosaic Idealize.SL.Sem
open Idealize.ShloMosaic.StableHlo (TRef after seq tcRefs)

/-- The reference is buffer `i` of device memory. -/
def At {sig : RefSig} (x : Ref sig .tc) (i : Nat) : Prop := x.space = .hbm ∧ x.idx.val = i

theorem At.eq {sig : RefSig} {x y : Ref sig .tc} {i : Nat} (hx : At x i) (hy : At y i) : x = y := by
  obtain ⟨sx, ix, nx⟩ := x
  obtain ⟨sy, iy, ny⟩ := y
  obtain ⟨h1, h2⟩ := hx
  obtain ⟨h3, h4⟩ := hy
  dsimp only at h1 h2 h3 h4
  subst h1; subst h3
  have : ix = iy := Fin.ext (h2.trans h4.symm)
  subst this
  rfl

theorem At.index {sig : RefSig} {x : Ref sig .tc} {i j : Nat} (hx : At x i) (hy : At x j) : i = j :=
  hx.2.symm.trans hy.2

section

variable {Val : EltTy → Type}

/-! ## Functions of contents, transported between equal buffer types -/

theorem heq_app1 {A A' Y Y' : BufTy} (ha : A = A') (hy : Y = Y') {f : A.Contents Val → Y.Contents Val}
    {f' : A'.Contents Val → Y'.Contents Val} (hf : HEq f f') {u : A.Contents Val} {u' : A'.Contents Val} (hu : HEq u u') :
    HEq (f u) (f' u') := by
  subst ha hy; cases hf; cases hu; rfl

theorem heq_app2 {A A' B B' Y Y' : BufTy} (ha : A = A') (hb : B = B') (hy : Y = Y')
    {f : A.Contents Val → B.Contents Val → Y.Contents Val} {f' : A'.Contents Val → B'.Contents Val → Y'.Contents Val}
    (hf : HEq f f') {u : A.Contents Val} {u' : A'.Contents Val} (hu : HEq u u')
    {v : B.Contents Val} {v' : B'.Contents Val} (hv : HEq v v') : HEq (f u v) (f' u' v') := by
  subst ha hb hy; cases hf; cases hu; cases hv; rfl

theorem heq_app3 {A A' B B' C C' Y Y' : BufTy} (ha : A = A') (hb : B = B') (hc : C = C') (hy : Y = Y')
    {f : A.Contents Val → B.Contents Val → C.Contents Val → Y.Contents Val}
    {f' : A'.Contents Val → B'.Contents Val → C'.Contents Val → Y'.Contents Val}
    (hf : HEq f f') {u : A.Contents Val} {u' : A'.Contents Val} (hu : HEq u u')
    {v : B.Contents Val} {v' : B'.Contents Val} (hv : HEq v v')
    {w : C.Contents Val} {w' : C'.Contents Val} (hw : HEq w w') : HEq (f u v w) (f' u' v' w') := by
  subst ha hb hc hy; cases hf; cases hu; cases hv; cases hw; rfl

theorem heq_cast0 {Y Y' T : BufTy} (hy : Y = T) (hy' : Y' = T) (v : T.Contents Val) :
    HEq (cast (congrArg (fun U : BufTy => U.Contents Val) hy.symm) v)
      (cast (congrArg (fun U : BufTy => U.Contents Val) hy'.symm) v) := by
  subst hy; subst hy'; rfl

theorem heq_cast1 {A A' S Y Y' T : BufTy} (ha : A = S) (ha' : A' = S) (hy : Y = T) (hy' : Y' = T)
    (f : S.Contents Val → T.Contents Val) :
    HEq (fun u : A.Contents Val => cast (congrArg (fun U : BufTy => U.Contents Val) hy.symm)
        (f (cast (congrArg (fun U : BufTy => U.Contents Val) ha) u)))
      (fun u : A'.Contents Val => cast (congrArg (fun U : BufTy => U.Contents Val) hy'.symm)
        (f (cast (congrArg (fun U : BufTy => U.Contents Val) ha') u))) := by
  subst ha; subst ha'; subst hy; subst hy'; rfl

theorem heq_cast2 {A A' S B B' R Y Y' T : BufTy} (ha : A = S) (ha' : A' = S) (hb : B = R) (hb' : B' = R)
    (hy : Y = T) (hy' : Y' = T) (f : S.Contents Val → R.Contents Val → T.Contents Val) :
    HEq (fun (u : A.Contents Val) (v : B.Contents Val) => cast (congrArg (fun U : BufTy => U.Contents Val) hy.symm)
        (f (cast (congrArg (fun U : BufTy => U.Contents Val) ha) u) (cast (congrArg (fun U : BufTy => U.Contents Val) hb) v)))
      (fun (u : A'.Contents Val) (v : B'.Contents Val) => cast (congrArg (fun U : BufTy => U.Contents Val) hy'.symm)
        (f (cast (congrArg (fun U : BufTy => U.Contents Val) ha') u)
          (cast (congrArg (fun U : BufTy => U.Contents Val) hb') v))) := by
  subst ha; subst ha'; subst hb; subst hb'; subst hy; subst hy'; rfl

theorem heq_reshape {A A' Y Y' : BufTy} (ha : A = A') (hy : Y = Y') (he : A.elt = Y.elt) (he' : A'.elt = Y'.elt)
    (hn : A.shape.ShapeCasts Y.shape) (hn' : A'.shape.ShapeCasts Y'.shape)
    {u : A.Contents Val} {u' : A'.Contents Val} (hu : HEq u u') :
    HEq (fun i => he ▸ shapeCast Y.shape u hn i : Y.Contents Val) (fun i => he' ▸ shapeCast Y'.shape u' hn' i : Y'.Contents Val) := by
  subst ha; subst hy; cases hu; rfl

end

section

variable {τ τ' : Topo} {sig sig' : RefSig} {Val : EltTy → Type}

/-- The two memories hold the same contents in buffers `1` to `n` of device memory. -/
def Agree (n : Nat) (V : Valuation τ sig Val) (W : Valuation τ' sig' Val) : Prop :=
  ∀ (i : Nat) (x : Ref sig .tc) (x' : Ref sig' .tc), 1 ≤ i → i ≤ n → At x i → At x' i →
    HEq (V (Proc.devRef .tc x)) (W (Proc.devRef .tc x'))

/-- One operation of each program, the second one an ordinary host operation that does not write buffer `0`: where the
    memories agree up to buffer `n` before, they agree up to buffer `n + 1` after. -/
structure Step (n : Nat) (a : HloOp τ sig Val) (b : HloOp τ' sig' Val) : Prop where
  sub : b.bufs ⊆ tcRefs τ' sig'
  fresh : b.fresh = ∅
  keeps : ∀ x : Ref sig' .tc, At x 0 → Proc.devRef .tc x ∉ b.writes
  agree : ∀ (V : Valuation τ sig Val) (W : Valuation τ' sig' Val), Agree n V W → Agree (n + 1) (a.result V) (b.result W)

/-- Operations that each write buffer `n + 1` alone, and the same contents into it. -/
theorem Step.of_writes {n : Nat} {a : HloOp τ sig Val} {b : HloOp τ' sig' Val} {y : Ref sig .tc} {y' : Ref sig' .tc}
    (hy : At y (n + 1)) (hy' : At y' (n + 1)) (ha : a.writes = {Proc.devRef .tc y}) (hb : b.writes = {Proc.devRef .tc y'})
    (hs : b.bufs ⊆ tcRefs τ' sig') (hf : b.fresh = ∅)
    (h : ∀ (V : Valuation τ sig Val) (W : Valuation τ' sig' Val), Agree n V W →
      HEq (a.result V (Proc.devRef .tc y)) (b.result W (Proc.devRef .tc y'))) : Step n a b where
  sub := hs
  fresh := hf
  keeps x hx := by
    rw [hb, Finset.mem_singleton]
    refine StableHlo.devRef_ne_of_ne ?_
    rintro rfl
    exact absurd (hx.index hy') (by omega)
  agree V W hVW i x x' h1 hi hx hx' := by
    by_cases e : i = n + 1
    · subst e
      obtain rfl := hx.eq hy
      obtain rfl := hx'.eq hy'
      exact h V W hVW
    · rw [StableHlo.result_of_writes_ne a V y x ha (by rintro rfl; exact e (hx.index hy)),
        StableHlo.result_of_writes_ne b W y' x' hb (by rintro rfl; exact e (hx'.index hy'))]
      exact hVW i x x' h1 (by omega) hx hx'

/-! ## One step, by the operation's builder -/

variable {n i j k : Nat}

/-- A buffer that both programs have already written: it has an index between `1` and `n`, the same in both. -/
structure Seen (n : Nat) (x : Ref sig .tc) (x' : Ref sig' .tc) : Prop where
  left : At x x.idx.val
  right : At x' x.idx.val
  pos : 1 ≤ x.idx.val
  le : x.idx.val ≤ n

theorem Seen.heq {x : Ref sig .tc} {x' : Ref sig' .tc} (h : Seen n x x') {V : Valuation τ sig Val}
    {W : Valuation τ' sig' Val} (hVW : Agree n V W) : HEq (V (Proc.devRef .tc x)) (W (Proc.devRef .tc x')) :=
  hVW _ x x' h.pos h.le h.left h.right

theorem Step.nullary {y : Ref sig .tc} {y' : Ref sig' .tc} {v : y.ty.Contents Val} {v' : y'.ty.Contents Val} {hd hd'}
    (hv : HEq v v') (hy : At y (n + 1)) (hy' : At y' (n + 1)) :
    Step n (StableHlo.nullary (τ := τ) y v hd) (StableHlo.nullary (τ := τ') y' v' hd') := by
  refine .of_writes hy hy' rfl rfl (StableHlo.nullary_bufs_sub ..) rfl fun V W _ => ?_
  rw [StableHlo.nullary_result, StableHlo.nullary_result]
  exact hv

theorem Step.unary {x y : Ref sig .tc} {x' y' : Ref sig' .tc} {f : x.ty.Contents Val → y.ty.Contents Val}
    {f' : x'.ty.Contents Val → y'.ty.Contents Val} {hd he hd' he'}
    (tx : x.ty = x'.ty) (ty : y.ty = y'.ty) (hf : HEq f f') (hx : Seen n x x') (hy : At y (n + 1)) (hy' : At y' (n + 1)) :
    Step n (StableHlo.unary (τ := τ) x y f hd he) (StableHlo.unary (τ := τ') x' y' f' hd' he') := by
  refine .of_writes hy hy' rfl rfl (StableHlo.unary_bufs_sub ..) rfl fun V W hVW => ?_
  rw [StableHlo.unary_result, StableHlo.unary_result]
  exact heq_app1 tx ty hf (hx.heq hVW)

theorem Step.binary {a b y : Ref sig .tc} {a' b' y' : Ref sig' .tc}
    {f : a.ty.Contents Val → b.ty.Contents Val → y.ty.Contents Val}
    {f' : a'.ty.Contents Val → b'.ty.Contents Val → y'.ty.Contents Val} {hd he hg hd' he' hg'}
    (ta : a.ty = a'.ty) (tb : b.ty = b'.ty) (ty : y.ty = y'.ty) (hf : HEq f f') (ha : Seen n a a') (hb : Seen n b b')
    (hy : At y (n + 1)) (hy' : At y' (n + 1)) :
    Step n (StableHlo.binary (τ := τ) a b y f hd he hg) (StableHlo.binary (τ := τ') a' b' y' f' hd' he' hg') := by
  refine .of_writes hy hy' rfl rfl (StableHlo.binary_bufs_sub ..) rfl fun V W hVW => ?_
  rw [StableHlo.binary_result, StableHlo.binary_result]
  exact heq_app2 ta tb ty hf (ha.heq hVW) (hb.heq hVW)

theorem Step.ternary {c a b y : Ref sig .tc} {c' a' b' y' : Ref sig' .tc}
    {f : c.ty.Contents Val → a.ty.Contents Val → b.ty.Contents Val → y.ty.Contents Val}
    {f' : c'.ty.Contents Val → a'.ty.Contents Val → b'.ty.Contents Val → y'.ty.Contents Val} {hd he hg hh hd' he' hg' hh'}
    (tc : c.ty = c'.ty) (ta : a.ty = a'.ty) (tb : b.ty = b'.ty) (ty : y.ty = y'.ty) (hf : HEq f f') (hc : Seen n c c')
    (ha : Seen n a a') (hb : Seen n b b') (hy : At y (n + 1)) (hy' : At y' (n + 1)) :
    Step n (StableHlo.ternary (τ := τ) c a b y f hd he hg hh) (StableHlo.ternary (τ := τ') c' a' b' y' f' hd' he' hg' hh') := by
  refine .of_writes hy hy' rfl rfl (StableHlo.ternary_bufs_sub ..) rfl fun V W hVW => ?_
  rw [StableHlo.ternary_result, StableHlo.ternary_result]
  exact heq_app3 tc ta tb ty hf (hc.heq hVW) (ha.heq hVW) (hb.heq hVW)

theorem Step.reshape {x y : Ref sig .tc} {x' y' : Ref sig' .tc} {he hn hd hd2 he' hn' hd' hd2'}
    (tx : x.ty = x'.ty) (ty : y.ty = y'.ty) (hx : Seen n x x') (hy : At y (n + 1)) (hy' : At y' (n + 1)) :
    Step n (StableHlo.reshape (τ := τ) (Val := Val) x y he hn hd hd2)
      (StableHlo.reshape (τ := τ') (Val := Val) x' y' he' hn' hd' hd2') := by
  refine .of_writes hy hy' rfl rfl (StableHlo.reshape_bufs_sub ..) rfl fun V W hVW => ?_
  rw [StableHlo.reshape_result, StableHlo.reshape_result]
  exact heq_reshape tx ty he he' hn hn' (hx.heq hVW)

/-! The same at typed references, as a called function's body has them. -/

variable {Tx Tx' Ta Ta' Tb Tb' Ty Ty' : BufTy}

theorem Step.nullaryT {y : TRef sig Ty} {y' : TRef sig' Ty'} {v : Ty.Contents Val} {v' : Ty'.Contents Val}
    (ty : Ty = Ty') (hv : HEq v v') (hy : At y.ref (n + 1)) (hy' : At y'.ref (n + 1)) :
    Step n (TRef.nullary (τ := τ) y v) (TRef.nullary (τ := τ') y' v') := by
  subst ty; cases hv
  exact .nullary (heq_cast0 y.ty_eq y'.ty_eq v) hy hy'

theorem Step.unaryT {x : TRef sig Tx} {y : TRef sig Ty} {x' : TRef sig' Tx'} {y' : TRef sig' Ty'}
    {f : Tx.Contents Val → Ty.Contents Val} {f' : Tx'.Contents Val → Ty'.Contents Val}
    (tx : Tx = Tx') (ty : Ty = Ty') (hf : HEq f f') (hx : Seen n x.ref x'.ref)
    (hy : At y.ref (n + 1)) (hy' : At y'.ref (n + 1)) :
    Step n (TRef.unary (τ := τ) x y f) (TRef.unary (τ := τ') x' y' f') := by
  subst tx ty; cases hf
  exact .unary (x.ty_eq.trans x'.ty_eq.symm) (y.ty_eq.trans y'.ty_eq.symm)
    (heq_cast1 x.ty_eq x'.ty_eq y.ty_eq y'.ty_eq f) hx hy hy'

theorem Step.binaryT {a : TRef sig Ta} {b : TRef sig Tb} {y : TRef sig Ty} {a' : TRef sig' Ta'} {b' : TRef sig' Tb'}
    {y' : TRef sig' Ty'} {f : Ta.Contents Val → Tb.Contents Val → Ty.Contents Val}
    {f' : Ta'.Contents Val → Tb'.Contents Val → Ty'.Contents Val} (ta : Ta = Ta') (tb : Tb = Tb') (ty : Ty = Ty')
    (hf : HEq f f') (ha : Seen n a.ref a'.ref) (hb : Seen n b.ref b'.ref)
    (hy : At y.ref (n + 1)) (hy' : At y'.ref (n + 1)) :
    Step n (TRef.binary (τ := τ) a b y f) (TRef.binary (τ := τ') a' b' y' f') := by
  subst ta tb ty; cases hf
  exact .binary (a.ty_eq.trans a'.ty_eq.symm) (b.ty_eq.trans b'.ty_eq.symm) (y.ty_eq.trans y'.ty_eq.symm)
    (heq_cast2 a.ty_eq a'.ty_eq b.ty_eq b'.ty_eq y.ty_eq y'.ty_eq f) ha hb hy hy'

theorem Step.reshapeT {x : TRef sig Tx} {y : TRef sig Ty} {x' : TRef sig' Tx'} {y' : TRef sig' Ty'} {he hn he' hn'}
    (tx : Tx = Tx') (ty : Ty = Ty') (hx : Seen n x.ref x'.ref) (hy : At y.ref (n + 1)) (hy' : At y'.ref (n + 1)) :
    Step n (TRef.reshape (τ := τ) (Val := Val) x y he hn) (TRef.reshape (τ := τ') (Val := Val) x' y' he' hn') :=
  .reshape ((x.ty_eq.trans tx).trans x'.ty_eq.symm) ((y.ty_eq.trans ty).trans y'.ty_eq.symm) hx hy hy'

/-! ## A whole line of steps -/

variable {nD' : Nat} {Λ' : Labels}

/-- The second program `p` opens with a line of host operations that keeps step with `ops`, from buffer `n` on, and then
    runs `tail`. -/
def Follows (tail : List (HloOp τ' sig' Val)) (n : Nat) (ops : List (HloOp τ sig Val))
    (p : Prog (TpuEff nD' τ' sig' Val Λ' .tc) PUnit) : Prop :=
  ∃ bs : List (HloOp τ' sig' Val), p = seq (bs ++ tail)
    ∧ (∀ b ∈ bs, b.bufs ⊆ tcRefs τ' sig' ∧ b.fresh = ∅ ∧ ∀ x : Ref sig' .tc, At x 0 → Proc.devRef .tc x ∉ b.writes)
    ∧ ∀ (V : Valuation τ sig Val) (W : Valuation τ' sig' Val), Agree n V W → Agree (n + ops.length) (after ops V) (after bs W)

variable {tail : List (HloOp τ' sig' Val)} {ops : List (HloOp τ sig Val)}

theorem Follows.nil {p : Prog (TpuEff nD' τ' sig' Val Λ' .tc) PUnit} (h : p = seq tail) :
    Follows (τ := τ) (sig := sig) tail n [] p :=
  ⟨[], h, fun _ hb => absurd hb List.not_mem_nil, fun _ _ hVW => hVW⟩

theorem Follows.cons {a : HloOp τ sig Val} {b : HloOp τ' sig' Val} {p : Prog (TpuEff nD' τ' sig' Val Λ' .tc) PUnit}
    (hab : Step n a b) (hp : Follows tail (n + 1) ops p) :
    Follows tail n (a :: ops) ((hlo rfl b fun _ => .ret (⟨⟩ : PUnit)) >>= fun _ => p) := by
  obtain ⟨bs, hp, hbs, h⟩ := hp
  refine ⟨b :: bs, by rw [hp]; rfl, fun c hc => ?_, fun V W hVW => ?_⟩
  · rcases List.mem_cons.mp hc with rfl | hc
    · exact ⟨hab.sub, hab.fresh, hab.keeps⟩
    · exact hbs c hc
  · rw [List.length_cons, show n + (ops.length + 1) = n + 1 + ops.length by omega]
    exact h _ _ (hab.agree V W hVW)

theorem Follows.assoc {p : Prog (TpuEff nD' τ' sig' Val Λ' .tc) PUnit}
    {q r : PUnit → Prog (TpuEff nD' τ' sig' Val Λ' .tc) PUnit} (h : Follows tail n ops (p >>= fun x => q x >>= r)) :
    Follows tail n ops (p >>= q >>= r) := by
  rw [bind_assoc]; exact h

theorem Follows.ret {p : Prog (TpuEff nD' τ' sig' Val Λ' .tc) PUnit} (h : Follows tail n ops p) :
    Follows tail n ops ((pure ⟨⟩ : Prog (TpuEff nD' τ' sig' Val Λ' .tc) PUnit) >>= fun _ => p) := by
  rw [pure_bind]; exact h

end

end Cert.Lockstep

end
-- ==== Proof.ReferenceTail.lean ====
/-
  What the reference does once its mask is built: compare with zero, and select zero or the input.
-/
module

public import proofs.«01_k».proof.ReferenceIdeal
public import proofs.«01_k».proof.Proof.Gen.ReferenceIdeal
public import Idealize.ShloMosaic.Lib.StableHlo.Run
public import Idealize.ShloMosaic.Lib.Pipeline.Value

@[expose] public section

noncomputable section

namespace Cert.ReferenceIdeal.Erased

open Cert.ReferenceIdeal Cert.ReferenceIdeal.Facts₀ Idealize.ShloMosaic Idealize.ShloMosaic.TcCoe Idealize.SL.Sem
open Idealize.ShloMosaic.StableHlo (after seq tcRefs)

variable {F : FTy → Type} [FloatOps F]

/-- The place of the 512 × 512 mask over which an index of the (96, 512, 512) array lies. -/
def under (i : S96x512x512.Idx) : S512x512.Idx := fun a => match a with
  | ⟨0, _⟩ => ⟨(i 1).val, (i 1).isLt⟩
  | ⟨1, _⟩ => ⟨(i 2).val, (i 2).isLt⟩

/-- The array `X` with zero put where the mask `M`, repeated over the channels, differs from zero. -/
def erased (M : Vec F S512x512 .f32) (X : Vec F S96x512x512 .f32) : Vec F S96x512x512 .f32 := fun i =>
  Scalar.select (FloatOps.cmpf .une (M (under i)) (Scalar.ofBits .f32 0x00000000#32)) (Scalar.ofBits .f32 0x00000000#32) (X i)

/-- The mask repeated over the channels, read at an index, is the mask under that index. -/
theorem repeated (M : Vec F S512x512 .f32) (i : S96x512x512.Idx) :
    broadcastInDim S96x512x512 ![0, 1, 2] bcast_S1x512x512_S96x512x512_0_1_2
      (broadcastInDim S1x512x512 ![1, 2] bcast_S512x512_S1x512x512_1_2 M) i = M (under i) := by
  have h1 : (i 1).val < 512 := (i 1).isLt
  have h2 : (i 2).val < 512 := (i 2).isLt
  let j : S1x512x512.Idx := fun a => match a with
    | ⟨0, _⟩ => ⟨0, Nat.one_pos⟩
    | ⟨1, _⟩ => ⟨(i 1).val, h1⟩
    | ⟨2, _⟩ => ⟨(i 2).val, h2⟩
  rw [broadcastInDim_apply _ _ _ i j fun a => match a with | ⟨0, _⟩ => rfl | ⟨1, _⟩ => rfl | ⟨2, _⟩ => rfl]
  exact broadcastInDim_apply _ _ M j (under i) fun a => match a with | ⟨0, _⟩ => rfl | ⟨1, _⟩ => rfl

/-- What the reference does with the mask once it is built: compare with zero, and select zero or the input. -/
abbrev lastOps : List (HloOp τ sig (Elt F)) :=
  [ StableHlo.unary main_v21 main_v22 (broadcastInDim S1x512x512 ![1, 2] bcast_S512x512_S1x512x512_1_2 :
      (⟨S512x512, .f32⟩ : BufTy).Contents (Elt F) → (⟨S1x512x512, .f32⟩ : BufTy).Contents (Elt F)),
    StableHlo.unary main_v22 main_v23 (broadcastInDim S96x512x512 ![0, 1, 2] bcast_S1x512x512_S96x512x512_0_1_2 :
      (⟨S1x512x512, .f32⟩ : BufTy).Contents (Elt F) → (⟨S96x512x512, .f32⟩ : BufTy).Contents (Elt F)),
    StableHlo.nullary main_cst_6 (constant S_ .f32 0x00000000#32),
    StableHlo.unary main_cst_6 main_v24 (broadcastInDim S96x512x512 ![] bcast_S_S96x512x512 :
      (⟨S_, .f32⟩ : BufTy).Contents (Elt F) → (⟨S96x512x512, .f32⟩ : BufTy).Contents (Elt F)),
    StableHlo.binary main_v23 main_v24 main_v25 (cmpf .une : (⟨S96x512x512, .f32⟩ : BufTy).Contents (Elt F) →
      (⟨S96x512x512, .f32⟩ : BufTy).Contents (Elt F) → (⟨S96x512x512, .i1⟩ : BufTy).Contents (Elt F)),
    StableHlo.unary main_v25 main_v26 (id :
      (⟨S96x512x512, .i1⟩ : BufTy).Contents (Elt F) → (⟨S96x512x512, .i1⟩ : BufTy).Contents (Elt F)),
    StableHlo.nullary main_cst_7 (constant S_ .f32 0x00000000#32),
    StableHlo.unary main_cst_7 main_call2_v0 (broadcastInDim S96x512x512 ![] bcast_S_S96x512x512 :
      (⟨S_, .f32⟩ : BufTy).Contents (Elt F) → (⟨S96x512x512, .f32⟩ : BufTy).Contents (Elt F)),
    StableHlo.ternary main_v26 main_call2_v0 main_arg0 main_v27 (select : (⟨S96x512x512, .i1⟩ : BufTy).Contents (Elt F) →
      (⟨S96x512x512, .f32⟩ : BufTy).Contents (Elt F) → (⟨S96x512x512, .f32⟩ : BufTy).Contents (Elt F) →
      (⟨S96x512x512, .f32⟩ : BufTy).Contents (Elt F)) ]

/-- The reference's last operations leave the input with the masked places put to zero. -/
theorem last_value (W : Valuation τ sig (Elt F)) :
    after lastOps W main_v27 = erased (W main_v21) (W main_arg0) := by
  after_results
  funext i
  unfold erased
  rw [← repeated (W main_v21) i]
  rfl

/-- They do not write the input, -/
theorem last_input (W : Valuation τ sig (Elt F)) : after lastOps W main_arg0 = W main_arg0 := by
  after_results

/-- and are ordinary host operations. -/
theorem last_ordinary : ∀ b ∈ lastOps (F := F), b.bufs ⊆ tcRefs τ sig ∧ b.fresh = ∅ := by
  simp only [List.forall_mem_cons]
  exact ⟨⟨StableHlo.unary_bufs_sub .., rfl⟩, ⟨StableHlo.unary_bufs_sub .., rfl⟩, ⟨StableHlo.nullary_bufs_sub .., rfl⟩,
    ⟨StableHlo.unary_bufs_sub .., rfl⟩, ⟨StableHlo.binary_bufs_sub .., rfl⟩, ⟨StableHlo.unary_bufs_sub .., rfl⟩,
    ⟨StableHlo.nullary_bufs_sub .., rfl⟩, ⟨StableHlo.unary_bufs_sub .., rfl⟩, ⟨StableHlo.ternary_bufs_sub .., rfl⟩, fun _ h => absurd h List.not_mem_nil⟩

end Cert.ReferenceIdeal.Erased

end
-- ==== Proof.Mask.lean ====
/-
  The patch mask: both programs build it by the same 514 host operations.

  The kernel's program has its operations as one list; the reference's has them as a program text whose random permutation
  and Kronecker product are calls of functions. The proof walks both at once: it opens a call where the reference has one,
  and pairs the next operation of the list with the next of the text. What is asked of a pair is the step lemma of its kind:
  same function, operands at equal indices already written, result at the next index.
-/
module

public import proofs.«01_k».proof.Proof.Lockstep
public import proofs.«01_k».proof.Proof.Gen.KernelIdeal.Launch
public import proofs.«01_k».proof.Proof.ReferenceTail

@[expose] public section

-- a goal carries the whole of the two sequences still ahead, and one proof holds all the steps
set_option maxRecDepth 20000
set_option maxHeartbeats 0

noncomputable section

namespace Cert.Mask

open Idealize.ShloMosaic Idealize.SL.Sem
open Cert.Lockstep

variable {F : FTy → Type} [FloatOps F]

/-- The reference opens with the operations by which the kernel's program builds its mask, and ends with `lastOps`. -/
theorem follows (c : Dev Cert.ReferenceIdeal.nD) :
    Follows (Cert.ReferenceIdeal.Erased.lastOps (F := F)) 0
      (List.flatten [Cert.KernelIdeal.Gen.hostOps0 (F := F), Cert.KernelIdeal.Gen.hostOps0_1,
        Cert.KernelIdeal.Gen.hostOps0_2, Cert.KernelIdeal.Gen.hostOps0_3])
      (Cert.ReferenceIdeal.main (F := F) c) := by
  simp only [Cert.KernelIdeal.Gen.hostOps0, Cert.KernelIdeal.Gen.hostOps0_1, Cert.KernelIdeal.Gen.hostOps0_2,
    Cert.KernelIdeal.Gen.hostOps0_3, List.flatten_cons, List.flatten_nil, List.append_nil, List.cons_append, List.nil_append]
  unfold Cert.ReferenceIdeal.main
  -- walk the two sequences, opening the reference's calls
  repeat' first
    | with_reducible apply Follows.cons
    | with_reducible apply Follows.ret
    | with_reducible apply Follows.assoc
    | unfold Cert.ReferenceIdeal.fn_shuffle.body
    | unfold Cert.ReferenceIdeal.fn_threefry_split.body
    | unfold Cert.ReferenceIdeal.fn_threefry2x32.body
    | unfold Cert.ReferenceIdeal.fn_threefry2x32.body_part0
    | unfold Cert.ReferenceIdeal.fn_threefry2x32.body_part1
    | unfold Cert.ReferenceIdeal.fn_threefry2x32.body_part2
    | unfold Cert.ReferenceIdeal.fn_threefry2x32.body_part3
    | unfold Cert.ReferenceIdeal.fn_threefry2x32_0.body
    | unfold Cert.ReferenceIdeal.fn_threefry2x32_0.body_part0
    | unfold Cert.ReferenceIdeal.fn_threefry2x32_0.body_part1
    | unfold Cert.ReferenceIdeal.fn_threefry2x32_0.body_part2
    | unfold Cert.ReferenceIdeal.fn_threefry2x32_0.body_part3
    | unfold Cert.ReferenceIdeal.fn_kron.body
    | with_reducible apply Follows.nil
  -- one step lemma for each pair
  any_goals with_reducible first
    | apply Step.nullary | apply Step.unary | apply Step.binary | apply Step.ternary | apply Step.reshape
    | apply Step.nullaryT | apply Step.unaryT | apply Step.binaryT | apply Step.reshapeT
  -- its side conditions: indices, types, functions; and the reference's last operations
  any_goals first
    | exact ⟨rfl, rfl⟩
    | exact ⟨⟨rfl, rfl⟩, ⟨rfl, rfl⟩, Nat.le_of_ble_eq_true rfl, Nat.le_of_ble_eq_true rfl⟩
    | exact HEq.rfl
    | rfl

end Cert.Mask
-- ==== Proof.ReferenceValue.lean ====
/-
  What the reference leaves in its result, said with the mask of the kernel's program.
-/
module

public import proofs.«01_k».proof.Proof.Mask

@[expose] public section

noncomputable section

namespace Cert.ReferenceIdeal.Erased

open Cert.ReferenceIdeal Idealize.ShloMosaic Idealize.ShloMosaic.TcCoe Idealize.SL.Sem
open Idealize.ShloMosaic.StableHlo (after seq tcRefs launchContents)
open Cert.Lockstep Cert.Mask

variable {F : FTy → Type} [FloatOps F]

/-- One line of operations after another. -/
theorem after_lines (xs bs : List (HloOp τ sig (Elt F))) (W : Valuation τ sig (Elt F)) :
    after (xs ++ bs) W = after bs (after xs W) := by
  induction xs generalizing W with
  | nil => rfl
  | cons _ _ ih => exact ih _

variable (m : (ℓ : Loc nD τ sig) → Buf (Elt F) ℓ) (ρ : Dev nD → PrngReg)

/-- The kernel's program, run by itself from any contents `V`, leaves this mask. -/
abbrev mask (V : Valuation Cert.KernelIdeal.τ Cert.KernelIdeal.sig (Elt F)) : Vec F S512x512 .f32 :=
  after (List.flatten [Cert.KernelIdeal.Gen.hostOps0 (F := F), Cert.KernelIdeal.Gen.hostOps0_1, Cert.KernelIdeal.Gen.hostOps0_2,
    Cert.KernelIdeal.Gen.hostOps0_3]) V (Proc.devRef .tc Cert.KernelIdeal.main_v21)

/-- The reference's run: the result is the input with zero put where the mask of the kernel's program is not zero, and the
    input is unchanged. -/
theorem run : θ_run defs (onTc (τ := τ) (main (F := F))) ⟨m, fun _ => 0, ρ⟩ fun r => ∀ c : Dev nD,
      (∀ V, r.2.mem ((c : Thread nD τ).loc main_v27) = erased (mask V) (m ((c : Thread nD τ).loc main_arg0)))
      ∧ r.2.mem ((c : Thread nD τ).loc main_arg0) = m ((c : Thread nD τ).loc main_arg0) := by
  choose bs hp hb hbs using fun c => follows (F := F) c
  have hall : ∀ c, ∀ b ∈ bs c ++ lastOps, b.bufs ⊆ tcRefs τ sig ∧ b.fresh = ∅ := fun c b hbm => by
    rcases List.mem_append.mp hbm with h | h
    · exact ⟨(hb c b h).1, (hb c b h).2.1⟩
    · exact last_ordinary b h
  have hin : ∀ c W, after (bs c) W main_arg0 = W main_arg0 := fun c W =>
    StableHlo.after_of_forall_not_mem _ _ fun b h => (hb c b h).2.2 main_arg0 ⟨rfl, rfl⟩
  refine (θ_run defs _ _).mono (fun r h c => ⟨fun V => ?_, ?_⟩)
    (StableHlo.run_seq (by decide) (by decide) defs main (fun c => bs c ++ lastOps) hp
      (fun c => List.forall_iff_forall_mem.mpr fun b h => (hall c b h).1) m ρ (fun c b h => (hall c b h).2))
  · refine (h c main_v27).trans ?_
    rw [after_lines, last_value, hin]
    have e : mask V = after (bs c) (launchContents m c) main_v21 :=
      eq_of_heq ((hbs c V (launchContents m c) fun i _ _ h1 h0 => absurd h1 (by omega)) 514 _ _ (by decide)
        (Nat.le_refl 514)
        ⟨rfl, rfl⟩ ⟨rfl, rfl⟩)
    rw [e]
  · refine (h c main_arg0).trans ?_
    rw [after_lines, last_input, hin]

end Cert.ReferenceIdeal.Erased

end
-- ==== Proof.lean ====
/-
  The proof of `Cert.Claim`: the three programs run, terminate and leave their argument and every semaphore as it was; the
  idealized kernel is the kernel's own text; and over the extended reals the kernel and the reference end with the same array.
  Both programs build the patch mask by the same host operations (Proof/Mask.lean, by the step lemmas of
  Proof/Lockstep.lean). The kernel then puts zero where the mask differs from zero, block by block (Proof/KernelValue.lean),
  the reference does so in one piece (Proof/ReferenceValue.lean), and the two comparisons they use are one at the extended
  reals, where no value is unordered.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.KernelValue
public import proofs.«01_k».proof.Proof.ReferenceValue
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The kernel runs, and leaves its argument and every semaphore as it was. -/
theorem frame_kernel : Cert.quiescent_Kernel := fun m ρ _ => Cert.Kernel.Gen.frame m ρ

/-- So does the kernel read at the extended reals, -/
theorem frame_kernelIdeal : Cert.quiescent_KernelIdeal := fun m ρ _ => Cert.KernelIdeal.Gen.frame m ρ

/-- and so does the reference, which has no semaphore. -/
theorem frame_referenceIdeal : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Erased.run (F := Ideal) m ρ)

/-- At the extended reals the kernel's comparison and the reference's agree, so from one mask and one input both put zero at the
    same places. -/
theorem erased_eq (M : Vec Ideal Cert.KernelIdeal.S512x512 .f32) (X : Vec Ideal Cert.KernelIdeal.S96x512x512 .f32) :
    Cert.ReferenceIdeal.Erased.erased (F := Ideal) M X = Cert.KernelIdeal.Erased.erased M X := rfl

/-- At the extended reals the kernel and the reference end with the same array. -/
theorem algebraic : Cert.algebraic_KernelIdeal_ReferenceIdeal := by
  intro m ρ m' ρ' _ hagree
  refine ⟨fun c => Cert.KernelIdeal.Erased.erased (Cert.KernelIdeal.Gen.V m c Cert.KernelIdeal.main_v21)
      (m (c.tc.loc Cert.KernelIdeal.main_arg0)),
    Cert.KernelIdeal.Erased.run (F := Ideal) m ρ,
    (θ_run Cert.ReferenceIdeal.defs _ _).mono (fun r h c => ⟨?_, (h c).2⟩) (Cert.ReferenceIdeal.Erased.run (F := Ideal) m' ρ')⟩
  refine ((h c).1 fun b => m (c, b)).trans ?_
  rw [hagree c]
  exact erased_eq _ _

theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
